-- ==== Defs.lean ====
def Pre_Kernel [hPre_is_swap_Kernel : Cert.Pre_is_swap_Kernel.Facts] (m : (ℓ : Loc Cert.Kernel.nD Cert.Kernel.τ Cert.Kernel.sig) → Buf (Elt Bits) ℓ) : Prop :=
  ∀ c : Dev Cert.Kernel.nD,
    (Cert.Pre_is_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_identity_Kernel [hPre_is_identity_Kernel : Cert.Pre_is_identity_Kernel.Facts] (m : (ℓ : Loc Cert.Kernel.nD Cert.Kernel.τ Cert.Kernel.sig) → Buf (Elt Bits) ℓ) : Prop :=
  ∀ c : Dev Cert.Kernel.nD,
    (Cert.Pre_is_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_is_swap_Kernel : Cert.Pre_is_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_identity_Kernel [hPre_is_identity_Kernel : Cert.Pre_is_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_swap_ReferenceIdeal [hPre_is_swap_ReferenceIdeal : Cert.Pre_is_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_identity_ReferenceIdeal [hPre_is_identity_ReferenceIdeal : Cert.Pre_is_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_is_swap_Kernel : Cert.Pre_is_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_identity_Kernel [hKernel : Cert.Kernel.Facts] [hPre_is_identity_Kernel : Cert.Pre_is_identity_Kernel.Facts] : Prop :=
  ∀ (m : (ℓ : Loc Cert.Kernel.nD Cert.Kernel.τ Cert.Kernel.sig) → Buf (Elt Bits) ℓ) (g : Dev Cert.Kernel.nD → PrngReg), Pre_Kernel_is_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_identity_Kernel [hKernelIdeal : Cert.KernelIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_swap_ReferenceIdeal [hReferenceIdeal : Cert.ReferenceIdeal.Facts] [hPre_is_swap_ReferenceIdeal : Cert.Pre_is_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_identity_ReferenceIdeal [hReferenceIdeal : Cert.ReferenceIdeal.Facts] [hPre_is_identity_ReferenceIdeal : Cert.Pre_is_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_identity_Kernel [hKernelIdeal : Cert.KernelIdeal.Facts] [hReferenceIdeal : Cert.ReferenceIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_identity_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_swap_Kernel : Cert.Pre_is_swap_Kernel.Facts) (hPre_is_identity_Kernel : Cert.Pre_is_identity_Kernel.Facts) (hPre_is_swap_ReferenceIdeal : Cert.Pre_is_swap_ReferenceIdeal.Facts) (hPre_is_identity_ReferenceIdeal : Cert.Pre_is_identity_ReferenceIdeal.Facts),
    quiescent_Kernel (hKernel := hKernel) (hPre_is_swap_Kernel := hPre_is_swap_Kernel)
    ∧ quiescent_Kernel_pre_is_identity_Kernel (hKernel := hKernel) (hPre_is_identity_Kernel := hPre_is_identity_Kernel)
    ∧ quiescent_KernelIdeal (hKernelIdeal := hKernelIdeal) (hPre_is_swap_Kernel := hPre_is_swap_Kernel)
    ∧ quiescent_KernelIdeal_pre_is_identity_Kernel (hKernelIdeal := hKernelIdeal) (hPre_is_identity_Kernel := hPre_is_identity_Kernel)
    ∧ quiescent_ReferenceIdeal (hReferenceIdeal := hReferenceIdeal)
    ∧ quiescent_ReferenceIdeal_pre_is_swap_ReferenceIdeal (hReferenceIdeal := hReferenceIdeal) (hPre_is_swap_ReferenceIdeal := hPre_is_swap_ReferenceIdeal)
    ∧ quiescent_ReferenceIdeal_pre_is_identity_ReferenceIdeal (hReferenceIdeal := hReferenceIdeal) (hPre_is_identity_ReferenceIdeal := hPre_is_identity_ReferenceIdeal)
    ∧ preserves_Kernel_KernelIdeal
    ∧ algebraic_KernelIdeal_ReferenceIdeal (hKernelIdeal := hKernelIdeal) (hReferenceIdeal := hReferenceIdeal) (hPre_is_swap_Kernel := hPre_is_swap_Kernel)
    ∧ algebraic_KernelIdeal_ReferenceIdeal_pre_is_identity_Kernel (hKernelIdeal := hKernelIdeal) (hReferenceIdeal := hReferenceIdeal) (hPre_is_identity_Kernel := hPre_is_identity_Kernel)
-- ==== Pre_is_identity_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_identity_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_swap_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_is_swap_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S4 : Shape := ⟨1, ![4]⟩
abbrev S1 : Shape := ⟨1, ![1]⟩
abbrev S_ : Shape := ⟨0, ![]⟩
abbrev S1x64x512 : Shape := ⟨3, ![1, 64, 512]⟩

abbrev nBuf : Space → Nat
  | .hbm => 3
  | .vmem => 2
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .vmem, ⟨0, _⟩ => ⟨S1x512x512, .f32⟩
  | .local _ .vmem, ⟨1, _⟩ => ⟨S1x512x512, .f32⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_2 v2
  let c2_i32_5 : BitVec 32 := 2#32
  let v11 : BitVec 32 := Scalar.muli v9 c2_i32_5
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v13 : BitVec 32 := Scalar.muli v5 c1_i32_6
  let v14 : BitVec 32 := Scalar.addi v12 v13
  v14.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v15 : BitVec 32 := Scalar.muli v2 c2_i32_8
  let v16 : BitVec 32 := Scalar.addi c0_i32_9 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_3 v5
  let c1_i32_10 : BitVec 32 := 1#32
  let v17 : BitVec 32 := Scalar.muli v10 c1_i32_10
  let v18 : BitVec 32 := Scalar.addi v16 v17
  v18.toNat
def k0_off2 (d0 : Dev nD) (c0_i32_15 : BitVec 32) : Fin 3 → Nat :=
  let c0_i32_21 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v25 : BitVec 32 := Scalar.muli v5 c256_i32
  let v27 : BitVec 32 := Scalar.addi v25 c0_i32_15
  let c0_i32_22 : BitVec 32 := 0#32
  ![0, v27.toNat, 0]
def k0_dev3 (d0 : Dev nD) (v7 : BitVec 32) : Nat :=
  let c0_i32_19 : BitVec 32 := 0#32
  let c2_i32_18 : BitVec 32 := 2#32
  let v28 : BitVec 32 := Scalar.muli v7 c2_i32_18
  let v29 : BitVec 32 := Scalar.addi c0_i32_19 v28
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v30 : BitVec 32 := Scalar.muli v5 c1_i32_20
  let v31 : BitVec 32 := Scalar.addi v29 v30
  v31.toNat
def k0_cond2 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 1 := Scalar.cmpi .ne v7 v2
  let v23 : BitVec 32 := Scalar.extui v22
  let c0_i32_13 : BitVec 32 := 0#32
  let v24 : BitVec 1 := Scalar.cmpi .ne v23 c0_i32_13
  v24

def k0_dev4 (d0 : Dev nD) (v7 : BitVec 32) : Nat :=
  let c0_i32_29 : BitVec 32 := 0#32
  let c2_i32_28 : BitVec 32 := 2#32
  let v40 : BitVec 32 := Scalar.muli v7 c2_i32_28
  let v41 : BitVec 32 := Scalar.addi c0_i32_29 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v42 : BitVec 32 := Scalar.muli v5 c1_i32_30
  let v43 : BitVec 32 := Scalar.addi v41 v42
  v43.toNat
def k0_dev5 (d0 : Dev nD) (v7 : BitVec 32) : Nat :=
  let c0_i32_39 : BitVec 32 := 0#32
  let c2_i32_38 : BitVec 32 := 2#32
  let v52 : BitVec 32 := Scalar.muli v7 c2_i32_38
  let v53 : BitVec 32 := Scalar.addi c0_i32_39 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v54 : BitVec 32 := Scalar.muli v5 c1_i32_40
  let v55 : BitVec 32 := Scalar.addi v53 v54
  v55.toNat
def k0_dev6 (d0 : Dev nD) (v7 : BitVec 32) : Nat :=
  let c0_i32_48 : BitVec 32 := 0#32
  let c2_i32_47 : BitVec 32 := 2#32
  let v64 : BitVec 32 := Scalar.muli v7 c2_i32_47
  let v65 : BitVec 32 := Scalar.addi c0_i32_48 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v66 : BitVec 32 := Scalar.muli v5 c1_i32_49
  let v67 : BitVec 32 := Scalar.addi v65 v66
  v67.toNat

def k0_chk1 (d0 : Dev nD) (v7 : BitVec 32) : Prop :=
  (∀ (k0_h2 : k0_cond2 d0 v7 = 1#1), (k0_dev3 d0 v7) < nD) ∧
  (∀ (k0_h2 : k0_cond2 d0 v7 = 1#1), (k0_dev4 d0 v7) < nD) ∧
  (∀ (k0_h2 : k0_cond2 d0 v7 = 1#1), (k0_dev5 d0 v7) < nD) ∧
  (∀ (k0_h2 : k0_cond2 d0 v7 = 1#1), (k0_dev6 d0 v7) < nD)
theorem k0_dev3_lt : ∀ (d0 : Dev nD) (v7 : BitVec 32) (k0_hw1 : k0_chk1 d0 v7), ∀ (k0_h2 : k0_cond2 d0 v7 = 1#1), (k0_dev3 d0 v7) < nD := fun d0 v7 k0_hw1 k0_h2 => k0_hw1.1 k0_h2
theorem k0_dev4_lt : ∀ (d0 : Dev nD) (v7 : BitVec 32) (k0_hw1 : k0_chk1 d0 v7), ∀ (k0_h2 : k0_cond2 d0 v7 = 1#1), (k0_dev4 d0 v7) < nD := fun d0 v7 k0_hw1 k0_h2 => k0_hw1.2.1 k0_h2
theorem k0_dev5_lt : ∀ (d0 : Dev nD) (v7 : BitVec 32) (k0_hw1 : k0_chk1 d0 v7), ∀ (k0_h2 : k0_cond2 d0 v7 = 1#1), (k0_dev5 d0 v7) < nD := fun d0 v7 k0_hw1 k0_h2 => k0_hw1.2.2.1 k0_h2
theorem k0_dev6_lt : ∀ (d0 : Dev nD) (v7 : BitVec 32) (k0_hw1 : k0_chk1 d0 v7), ∀ (k0_h2 : k0_cond2 d0 v7 = 1#1), (k0_dev6 d0 v7) < nD := fun d0 v7 k0_hw1 k0_h2 => k0_hw1.2.2.2 k0_h2

def k0_dev7 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v85 : BitVec 32 := Scalar.muli v2 c2_i32_68
  let v86 : BitVec 32 := Scalar.addi c0_i32_69 v85
  let c1_i32_65 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v84 : BitVec 32 := Scalar.subi c1_i32_65 v5
  let c1_i32_70 : BitVec 32 := 1#32
  let v87 : BitVec 32 := Scalar.muli v84 c1_i32_70
  let v88 : BitVec 32 := Scalar.addi v86 v87
  v88.toNat
def k0_dev8 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v106 : BitVec 32 := Scalar.muli v2 c2_i32_89
  let v107 : BitVec 32 := Scalar.addi c0_i32_90 v106
  let c1_i32_86 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v105 : BitVec 32 := Scalar.subi c1_i32_86 v5
  let c1_i32_91 : BitVec 32 := 1#32
  let v108 : BitVec 32 := Scalar.muli v105 c1_i32_91
  let v109 : BitVec 32 := Scalar.addi v107 v108
  v109.toNat
def k0_dev9 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v127 : BitVec 32 := Scalar.muli v2 c2_i32_110
  let v128 : BitVec 32 := Scalar.addi c0_i32_111 v127
  let c1_i32_107 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v126 : BitVec 32 := Scalar.subi c1_i32_107 v5
  let c1_i32_112 : BitVec 32 := 1#32
  let v129 : BitVec 32 := Scalar.muli v126 c1_i32_112
  let v130 : BitVec 32 := Scalar.addi v128 v129
  v130.toNat
def k0_dev10 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v148 : BitVec 32 := Scalar.muli v2 c2_i32_131
  let v149 : BitVec 32 := Scalar.addi c0_i32_132 v148
  let c1_i32_128 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v147 : BitVec 32 := Scalar.subi c1_i32_128 v5
  let c1_i32_133 : BitVec 32 := 1#32
  let v150 : BitVec 32 := Scalar.muli v147 c1_i32_133
  let v151 : BitVec 32 := Scalar.addi v149 v150
  v151.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Proto.lean ====
/-
The protocol of the block permutation on a 2 x 2 mesh, written down before any run of it.

Device `c = (x, y)` has two neighbours: `px c = (1 - x, y)` and `py c = (x, 1 - y)`. A block of 512 rows is cut in two
halves of 256 rows, and each half in four chunks of 64 rows. When the table exchanges the two blocks, `c` sends the four
chunks of half `y` of its block to `px c`, and each chunk that arrives from `px c` it forwards to `py c`; so the two
devices of a row of the mesh receive one half each over the first link and exchange the halves over the second. When
the table is the identity, nobody sends anything.

Semaphores of `c`:
* the barrier semaphore: one unit from `px c`, which hands over the half of `px c`'s result buffer that `c` will write,
  and one unit from `py c`, likewise; `c` waits for both;
* `x_send[k]`, `x_recv[k]`, `y_send[k]`, `y_recv[k]`: one copy each, of one chunk.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.BlockSwap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds, and those of this protocol, whose duties are named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

set_option backward.proofsInPublic true in
/-- The neighbour along `x`: the device `(1 - x, y)`. -/
def px (c : Dev nD) : Dev nD := ⟨(c.val + 2) % 4, Nat.mod_lt _ (by decide)⟩
set_option backward.proofsInPublic true in
/-- The neighbour along `y`: the device `(x, 1 - y)`. -/
def py (c : Dev nD) : Dev nD := ⟨2 * (c.val / 2) + (1 - c.val % 2), by have := c.isLt; have : nD = 4 := rfl; omega⟩
/-- The half of a block that a device is in charge of on the first link: its coordinate `y`. -/
def half (c : Dev nD) : Fin 2 := ⟨c.val % 2, Nat.mod_lt _ (by decide)⟩

theorem px_px (c : Dev nD) : px (px c) = c := by revert c; decide
theorem py_py (c : Dev nD) : py (py c) = c := by revert c; decide
theorem half_px (c : Dev nD) : half (px c) = half c := by revert c; decide
theorem half_py_ne (c : Dev nD) : half (py c) ≠ half c := by revert c; decide
theorem px_ne_py (c : Dev nD) : px c ≠ py c := by revert c; decide

/-- The two neighbour maps as permutations of the mesh. -/
def pxE : Dev nD ≃ Dev nD := ⟨px, px, px_px, px_px⟩
def pyE : Dev nD ≃ Dev nD := ⟨py, py, py_py, py_py⟩

/-! ## Chunks of a block -/

/-- The row at which chunk `k` of half `h` starts, with the other two coordinates. -/
abbrev chunkOff (h : Fin 2) (k : Fin 4) : Fin 3 → ℕ := ![0, 256 * h.val + 64 * k.val, 0]

set_option backward.proofsInPublic true in
theorem chunkOff_inb (h : Fin 2) (k : Fin 4) : ∀ a, chunkOff h k a + S1x64x512.size a ≤ S1x512x512.size a := by
  revert h k; decide

/-- Chunk `k` of half `h`: 64 rows, whole in the other dimensions. -/
abbrev chunkR (h : Fin 2) (k : Fin 4) : Rect S1x512x512 := Rect.unit (s := S1x512x512) (chunkOff h k) S1x64x512.size (chunkOff_inb h k)

/-- Its elements. -/
abbrev chunkS (h : Fin 2) (k : Fin 4) : Finset S1x512x512.Idx := (chunkR h k).set

/-- An element is in chunk `k` of half `h` exactly when its row is among the 64 of the chunk. -/
theorem mem_chunkS {h : Fin 2} {k : Fin 4} {i : S1x512x512.Idx} : i ∈ chunkS h k ↔ (i (1 : Fin 3)).val / 64 = 4 * h.val + k.val := by
  rw [Rect.mem_set_unit]
  have h0 : (i (0 : Fin 3)).val < 1 := (i (0 : Fin 3)).isLt
  have h2 : (i (2 : Fin 3)).val < 512 := (i (2 : Fin 3)).isLt
  constructor
  · intro hm
    have := hm (1 : Fin 3)
    have e : chunkOff h k (1 : Fin 3) = 256 * h.val + 64 * k.val := rfl
    have e' : S1x64x512.size (1 : Fin 3) = 64 := rfl
    rw [e, e'] at this
    omega
  · intro hm a
    have e : chunkOff h k (1 : Fin 3) = 256 * h.val + 64 * k.val := rfl
    have e' : S1x64x512.size (1 : Fin 3) = 64 := rfl
    fin_cases a
    · exact ⟨Nat.zero_le _, by show (i (0 : Fin 3)).val < 0 + 1; omega⟩
    · constructor
      · show 256 * h.val + 64 * k.val ≤ (i (1 : Fin 3)).val; omega
      · show (i (1 : Fin 3)).val < 256 * h.val + 64 * k.val + 64; omega
    · exact ⟨Nat.zero_le _, by show (i (2 : Fin 3)).val < 0 + 512; omega⟩

/-- Different chunks share no element. -/
theorem chunkS_disjoint (a b : Fin 2 × Fin 4) (h : a ≠ b) : Disjoint (chunkS a.1 a.2) (chunkS b.1 b.2) := by
  rw [Finset.disjoint_left]
  intro i ha hb
  rw [mem_chunkS] at ha hb
  have h1 := a.2.isLt; have h2 := b.2.isLt
  exact h (Prod.ext (Fin.ext (by omega)) (Fin.ext (by omega)))

/-- The eight chunks make up the block. -/
theorem chunkS_cover : (Finset.univ : Finset (Fin 2 × Fin 4)).biUnion (fun a => chunkS a.1 a.2) = Finset.univ := by
  rw [Finset.eq_univ_iff_forall]
  intro i
  have h1 : (i (1 : Fin 3)).val < 512 := (i (1 : Fin 3)).isLt
  rw [Finset.mem_biUnion]
  refine ⟨(⟨(i (1 : Fin 3)).val / 256, by omega⟩, ⟨(i (1 : Fin 3)).val / 64 % 4, by omega⟩), Finset.mem_univ _, ?_⟩
  rw [mem_chunkS]
  show (i (1 : Fin 3)).val / 64 = 4 * ((i (1 : Fin 3)).val / 256) + (i (1 : Fin 3)).val / 64 % 4
  omega

/-- The rows of a chunk are in its half. -/
theorem half_of_mem {h : Fin 2} {k : Fin 4} {i : S1x512x512.Idx} (hi : i ∈ chunkS h k) : (i (1 : Fin 3)).val / 256 = h.val := by
  rw [mem_chunkS] at hi; have := k.isLt; omega

/-! ## Buffers and their chunks -/

abbrev pM : Memref sig .tc .smem S2 .i32 := Memref.whole cc0_stg0_0
abbrev xM : Memref sig .tc .vmem S1x512x512 .f32 := Memref.whole cc0_stg1_0
abbrev oM : Memref sig .tc .vmem S1x512x512 .f32 := Memref.whole cc0_stg2_0

/-- Chunk `k` of half `h` of the staged block, and of the staged result. -/
abbrev xC (h : Fin 2) (k : Fin 4) : Memref sig .tc .vmem S1x64x512 .f32 := xM.slice (chunkR h k) (fun _ => rfl)
abbrev oC (h : Fin 2) (k : Fin 4) : Memref sig .tc .vmem S1x64x512 .f32 := oM.slice (chunkR h k) (fun _ => rfl)

/-- What one copy of a chunk adds to a DMA semaphore. -/
abbrev N : ℕ := (oC 0 0).view.dmaCredit

/-- A slice at offsets equal to a chunk's is the chunk. -/
theorem slice_chunk (m : Memref sig .tc .vmem S1x512x512 .f32) (off : Fin 3 → ℕ) (inb : ∀ a, off a + S1x64x512.size a ≤ S1x512x512.size a)
    (h : Fin 2) (k : Fin 4) (e : off = chunkOff h k) :
    (m.slice (Rect.unit (s := S1x512x512) off S1x64x512.size inb) (fun _ => rfl) : Memref sig .tc .vmem S1x64x512 .f32) = m.slice (chunkR h k) (fun _ => rfl) := by
  subst e; rfl

variable (m : (ℓ : Loc nD τ sig) → Buf (Elt F) ℓ) (ρ : Dev nD → PrngReg)

/-- The memory at launch. -/
def s₀ : MemSt nD τ sig (Elt F) := ⟨m, fun _ => 0, ρ⟩

/-- The staged table and the staged block of device `c`. -/
def pstg (c : Dev nD) : (cc0_stg0_0 : Ref sig .tc).ty.Contents (Elt F) := iblk m c 0 t0_0
def xstg (c : Dev nD) : (cc0_stg1_0 : Ref sig .tc).ty.Contents (Elt F) := iblk m c 1 t0_0

/-- The result of device `c`. If the blocks are exchanged (`sw`), the rows of the half that `c` is in charge of come from
    `px c`, the others from `py c`'s own neighbour along `x`; otherwise it is `c`'s own block. -/
def outAt (sw : Bool) (c : Dev nD) : (cc0_stg2_0 : Ref sig .tc).ty.Contents (Elt F) :=
  if sw then fun i => if ((i : S1x512x512.Idx) (1 : Fin 3)).val / 256 = (half c).val then xstg m (px c) i else xstg m (px (py c)) i
  else xstg m c

/-- Device `d` holds chunk `k` of half `h` of its staged block, resp. of its staged result. -/
def xPts (d : Dev nD) (h : Fin 2) (k : Fin 4) (f : Buf (Elt F) ((d : Thread nD τ).loc cc0_stg1_0)) : sProp 𝕄 :=
  ((d : Thread nD τ).loc cc0_stg1_0) ↦[chunkS h k]{fullShare} f
def oPts (d : Dev nD) (h : Fin 2) (k : Fin 4) (f : Buf (Elt F) ((d : Thread nD τ).loc cc0_stg2_0)) : sProp 𝕄 :=
  ((d : Thread nD τ).loc cc0_stg2_0) ↦[chunkS h k]{fullShare} f

omit [FloatOps F] in
instance xPts_storable (d : Dev nD) (h k f) : BI.Storable (upEmb : UEmb _ 𝕄) (xPts (F := F) d h k f) := by unfold xPts; infer_instance
omit [FloatOps F] in
instance oPts_storable (d : Dev nD) (h k f) : BI.Storable (upEmb : UEmb _ 𝕄) (oPts (F := F) d h k f) := by unfold oPts; infer_instance

omit [FloatOps F] in
theorem bigSep_halves (c : Dev nD) (Φ : Fin 2 → sProp 𝕄) : bigSep Finset.univ Φ = iprop(Φ (half c) ∗ Φ (half (py c))) := by
  have h0 : (∀ c : Dev nD, half c = 0 ∧ half (py c) = 1 ∨ half c = 1 ∧ half (py c) = 0) := by decide
  rcases h0 c with ⟨h, h'⟩ | ⟨h, h'⟩ <;> rw [h, h']
  · exact bigSep_univ_eq_bigSepL [0, 1] (by decide) (by decide) Φ
  · exact bigSep_univ_eq_bigSepL [1, 0] (by decide) (by decide) Φ

omit [FloatOps F] in
/-- The whole staged block is its own half's four chunks and the other half's four. -/
theorem x_split (d : Dev nD) (f : Buf (Elt F) ((d : Thread nD τ).loc cc0_stg1_0)) :
    (((d : Thread nD τ).loc cc0_stg1_0) ↦{fullShare} f : sProp 𝕄)
      = iprop((bigSep Finset.univ fun k => xPts d (half d) k f) ∗ bigSep Finset.univ fun k => xPts d (half (py d)) k f) := by
  rw [Ring.pointsTo_blocks (fun a : Fin 2 × Fin 4 => chunkS a.1 a.2) chunkS_disjoint chunkS_cover, bigSep_univ_prod, bigSep_halves d]
  rfl

omit [FloatOps F] in
/-- The staged result likewise. -/
theorem o_split (d : Dev nD) (f : Buf (Elt F) ((d : Thread nD τ).loc cc0_stg2_0)) :
    (((d : Thread nD τ).loc cc0_stg2_0) ↦{fullShare} f : sProp 𝕄)
      = iprop((bigSep Finset.univ fun k => oPts d (half d) k f) ∗ bigSep Finset.univ fun k => oPts d (half (py d)) k f) := by
  rw [Ring.pointsTo_blocks (fun a : Fin 2 × Fin 4 => chunkS a.1 a.2) chunkS_disjoint chunkS_cover, bigSep_univ_prod, bigSep_halves d]
  rfl

/-! ## Landings -/

omit [FloatOps F] in
/-- What is written through a chunk of the staged result, read through the same chunk of other contents `g`, is `g` on it. -/
theorem write_chunk (d : Dev nD) (h : Fin 2) (k : Fin 4) (fd g : Buf (Elt F) ((d : Thread nD τ).loc cc0_stg2_0))
    (v : S1x64x512.Idx → Elt F .f32) (hv : ∀ j, v j = g ((oC h k).view.emb j)) :
    (((d : Thread nD τ).loc cc0_stg2_0) ↦[chunkS h k]{fullShare} (oC h k).view.write (Elt F) fd v Finset.univ : sProp 𝕄) = oPts d h k g := by
  unfold oPts
  refine pointsTo_congr fun i hi => ?_
  have hi' : i ∈ (oC h k).view.set := by rw [View.set_slice_whole]; exact hi
  obtain ⟨x, -, rfl⟩ := Finset.mem_map.mp hi'
  rw [View.write_emb_of_mem _ _ (Finset.mem_univ _)]
  exact hv x

omit [FloatOps F] in
/-- A chunk of the staged result that agrees with `g` on it is the chunk holding `g`. -/
theorem oPts_congr (d : Dev nD) (h : Fin 2) (k : Fin 4) (f g : Buf (Elt F) ((d : Thread nD τ).loc cc0_stg2_0))
    (e : ∀ i : S1x512x512.Idx, (i (1 : Fin 3)).val / 256 = h.val → f i = g i) : (oPts d h k f : sProp 𝕄) = oPts d h k g := by
  unfold oPts
  exact pointsTo_congr fun i hi => e i (half_of_mem hi)

omit [FloatOps F] in
/-- The result in the rows of the half a device is in charge of. -/
theorem outAt_own (c : Dev nD) (i : S1x512x512.Idx) (h : (i (1 : Fin 3)).val / 256 = (half c).val) : outAt m true c i = xstg m (px c) i := by
  unfold outAt; rw [if_pos rfl]; exact if_pos h
omit [FloatOps F] in
/-- The result in the rows of the other half. -/
theorem outAt_other (c : Dev nD) (i : S1x512x512.Idx) (h : (i (1 : Fin 3)).val / 256 = (half (py c)).val) : outAt m true c i = outAt m true (py c) i := by
  rw [outAt_own m (py c) i h]
  unfold outAt; rw [if_pos rfl]
  exact if_neg fun h' => half_py_ne c (Fin.ext (h.symm.trans h'))

/-! ## Semaphores and their cells -/

/-- The barrier semaphore. -/
abbrev barS : Sem sig := (SemArray.scalar (sig.barrier 0 rfl) : Sems sig S_).sem
set_option backward.proofsInPublic true in
/-- The DMA semaphores: `dsem 0 k` is `x_send[k]`, `dsem 1 k` is `x_recv[k]`, `dsem 2 k` is `y_send[k]`, `dsem 3 k` is `y_recv[k]`. -/
def dsem (a k : Fin 4) : DmaSem sig := ⟨3 + (4 * a.val + k.val), by have := a.isLt; have := k.isLt; show _ < 19; omega⟩

set_option backward.proofsInPublic true in
/-- Which of the sixteen a semaphore is, if any. -/
def slot : SemLoc sig → Option (Fin 4 × Fin 4)
  | .reg _ => none
  | .dma q => if h : 3 ≤ q.val then some (⟨(q.val - 3) / 4, by have h' : q.val < 19 := q.isLt; omega⟩, ⟨(q.val - 3) % 4, Nat.mod_lt _ (by decide)⟩) else none

theorem slot_dsem (a k : Fin 4) : slot (.dma (dsem a k)) = some (a, k) := by revert a k; decide

/-- A device's semaphores under this protocol: the barrier's, then the sixteen. -/
abbrev J : Type := Unit ⊕ (Fin 4 × Fin 4)
def csem : J → SemLoc sig
  | .inl _ => .reg barS
  | .inr p => .dma (dsem p.1 p.2)
theorem csem_inj : Function.Injective csem := by decide

abbrev bar (c : Dev nD) : GSem nD τ sig := ((c : Thread nD τ), .reg barS)
abbrev xf (a k : Fin 4) (c : Dev nD) : GSem nD τ sig := ((c : Thread nD τ), .dma (dsem a k))
def kcell (p : Dev nD × J) : GSem nD τ sig := ((p.1 : Thread nD τ), csem p.2)

theorem N_pos : 0 < N := View.dmaCredit_pos _ (by decide)

/-! ## The schedule -/

/-- What a neighbour's signal hands over: the half of its result buffer that `c` is going to write, at any contents. -/
def lend (sw : Bool) (d : Dev nD) (h : Fin 2) : sProp 𝕄 := if sw then iprop(∃ f, bigSep Finset.univ fun k => oPts d h k f) else iprop(emp)

/-- What the arrival on semaphore `a`, `k` of device `c` hands over. On a send semaphore: the chunk that was read. On a
    receive semaphore: the chunk of the result, at its final contents. -/
def xferPay (c : Dev nD) (a k : Fin 4) : sProp 𝕄 :=
  match a with
  | 0 => xPts c (half c) k (xstg m c)
  | 1 => oPts c (half c) k (outAt m true c)
  | 2 => oPts c (half c) k (outAt m true c)
  | 3 => oPts c (half (py c)) k (outAt m true c)

omit [FloatOps F] in
instance lend_storable (sw : Bool) (d : Dev nD) (h : Fin 2) : BI.Storable (upEmb : UEmb _ 𝕄) (lend (F := F) sw d h) := by
  unfold lend; split <;> infer_instance
omit [FloatOps F] in
instance xferPay_storable (c : Dev nD) (a k : Fin 4) : BI.Storable (upEmb : UEmb _ 𝕄) (xferPay (F := F) m c a k) := by
  unfold xferPay; split <;> infer_instance

/-- The duties of one semaphore in the only round: the barrier's two signals (`false` from `px c`, `true` from `py c`); one
    copy on each of the sixteen if the blocks are exchanged. -/
def dutiesOf (sw : Bool) : SemLoc sig → Finset Bool
  | .reg _ => Finset.univ
  | .dma q => if sw = true ∧ (slot (.dma q)).isSome then {false} else ∅

/-- The schedule: one round. -/
def sched (sw : Bool) : Rounds.Schedule (GSem nD τ sig) Bool 𝕄 where
  duties g r := if r = 0 ∧ g.1.2 = .tc then dutiesOf sw g.2 else ∅
  unitless _ := False
  amount g _ _ := match g.2 with
    | .reg _ => 1
    | .dma _ => N
  payload g _ d := match g.2 with
    | .reg _ => if d then lend sw (py g.1.1) (half g.1.1) else lend sw (px g.1.1) (half g.1.1)
    | .dma q => match slot (.dma q) with
      | some p => xferPay m g.1.1 p.1 p.2
      | none => iprop(emp)
  amount_pos g _ _ _ := by
    split
    · exact Nat.one_pos
    · exact N_pos

omit [FloatOps F] in
instance sched_storable (sw : Bool) (g : GSem nD τ sig) (r : ℕ) (d : Bool) :
    BI.Storable (upEmb : UEmb _ 𝕄) ((sched (F := F) m sw).payload g r d) := by
  dsimp only [sched]
  (repeat' split) <;> infer_instance

section Sched
variable (sw : Bool) (c : Dev nD) (a k : Fin 4)

omit [FloatOps F] in
theorem duties_bar : (sched (F := F) m sw).duties (bar c) 0 = Finset.univ := by dsimp only [sched]; exact if_pos ⟨rfl, rfl⟩
omit [FloatOps F] in
theorem duties_xf : (sched (F := F) m true).duties (xf a k c) 0 = {false} := by
  dsimp only [sched]; rw [if_pos ⟨rfl, rfl⟩]; exact if_pos ⟨rfl, by rw [slot_dsem]; rfl⟩
omit [FloatOps F] in
theorem duties_xf_none (r : ℕ) : (sched (F := F) m false).duties (xf a k c) r = ∅ := by
  dsimp only [sched]; split
  · simp [dutiesOf]
  · rfl
omit [FloatOps F] in
theorem duties_later (g : GSem nD τ sig) (r : ℕ) (hr : 1 ≤ r) : (sched (F := F) m sw).duties g r = ∅ := by
  dsimp only [sched]; exact if_neg fun h => by omega

omit [FloatOps F] in
theorem amount_bar (d : Bool) : (sched (F := F) m sw).amount (bar c) 0 d = 1 := rfl
omit [FloatOps F] in
theorem amount_xf (d : Bool) : (sched (F := F) m sw).amount (xf a k c) 0 d = N := rfl
omit [FloatOps F] in
theorem expect_bar : (sched (F := F) m sw).expect (bar c) 0 = 2 := by
  unfold Schedule.expect Schedule.amountOf
  rw [duties_bar, Fintype.sum_bool, amount_bar, amount_bar]
omit [FloatOps F] in
theorem expect_xf : (sched (F := F) m true).expect (xf a k c) 0 = N := by
  unfold Schedule.expect Schedule.amountOf; rw [duties_xf, Finset.sum_singleton, amount_xf]

omit [FloatOps F] in
theorem payload_bar_px : (sched (F := F) m sw).payload (bar c) 0 false = lend sw (px c) (half c) := rfl
omit [FloatOps F] in
theorem payload_bar_py : (sched (F := F) m sw).payload (bar c) 0 true = lend sw (py c) (half c) := rfl
omit [FloatOps F] in
theorem payload_xf (d : Bool) : (sched (F := F) m sw).payload (xf a k c) 0 d = xferPay m c a k := by
  dsimp only [sched]; rw [slot_dsem]

omit [FloatOps F] in
/-- All that the barrier's round hands over. -/
theorem rest_bar : bigSep ((sched (F := F) m sw).duties (bar c) 0 \ ∅) (fun d => (sched (F := F) m sw).payload (bar c) 0 d)
    = iprop(lend sw (px c) (half c) ∗ lend sw (py c) (half c)) := by
  rw [Finset.sdiff_empty, duties_bar, bigSep_univ_eq_bigSepL [false, true] (by decide) (by decide), bigSepL_cons_cons, bigSepL_singleton,
    payload_bar_px, payload_bar_py]
  rfl
omit [FloatOps F] in
/-- All that a copy's round hands over. -/
theorem rest_xf : bigSep ((sched (F := F) m true).duties (xf a k c) 0 \ ∅) (fun d => (sched (F := F) m true).payload (xf a k c) 0 d) = xferPay m c a k := by
  rw [Finset.sdiff_empty, duties_xf, bigSep_singleton, payload_xf]

end Sched

/-! ## Debts and levels -/

/-- Amounts owed to cells, as a list; the head is paid first. -/
def owed (l : List (GSem nD τ sig × ℕ)) : CellTallies nD τ sig Unit := (l.map fun p => tallyAt p.1 () p.2).sum

theorem owed_nil : owed [] = 0 := rfl
theorem owed_cons (p : GSem nD τ sig × ℕ) (l : List (GSem nD τ sig × ℕ)) : owed (p :: l) = owed l + tallyAt p.1 () p.2 := by
  unfold owed; rw [List.map_cons, List.sum_cons, add_comm]

/-- What is owed is owed to a cell of the list. -/
theorem owed_pos {l : List (GSem nD τ sig × ℕ)} {g : GSem nD τ sig} {u : Unit} (h : 0 < owed l g u) : ∃ p ∈ l, p.1 = g := by
  induction l with
  | nil => exact absurd h (Nat.lt_irrefl 0)
  | cons p l ih =>
    rw [owed_cons, Pi.add_apply, Finsupp.add_apply, tallyAt_apply] at h
    by_cases hp : g = p.1 ∧ u = ()
    · exact ⟨p, List.mem_cons_self, hp.1.symm⟩
    · rw [if_neg hp, Nat.add_zero] at h
      obtain ⟨p', h1, h2⟩ := ih h
      exact ⟨p', List.mem_cons_of_mem _ h1, h2⟩

/-- Units of one copy: nothing if the blocks stay. -/
def amt (sw : Bool) : ℕ := if sw then N else 0

/-- What device `c` owes for the forwarded chunks `k`, `k + 1`, .. 3 to `py c`; -/
def dueY (sw : Bool) (c : Dev nD) : List (GSem nD τ sig × ℕ) := [(xf 3 0 (py c), amt sw), (xf 3 1 (py c), amt sw), (xf 3 2 (py c), amt sw), (xf 3 3 (py c), amt sw)]
/-- for the chunks of its own block to `px c` as well; -/
def dueX (sw : Bool) (c : Dev nD) : List (GSem nD τ sig × ℕ) :=
  (xf 1 0 (px c), amt sw) :: (xf 1 1 (px c), amt sw) :: (xf 1 2 (px c), amt sw) :: (xf 1 3 (px c), amt sw) :: dueY sw c
/-- and at launch, the two signals too. -/
def due (sw : Bool) (c : Dev nD) : List (GSem nD τ sig × ℕ) := (bar (px c), 1) :: (bar (py c), 1) :: dueX sw c

def L (g : GSem nD τ sig) : Finset Unit := if g.1.2 = .tc then {()} else ∅
/-- The order of the waits: staging and send semaphores first, then the barrier, then the arrivals over the first link,
    then those over the second. -/
def lv (g : GSem nD τ sig) (_ : Unit) : ℕ := match g.2 with
  | .reg _ => 1
  | .dma q => match slot (.dma q) with
    | some (1, _) => 2
    | some (3, _) => 3
    | _ => 0

theorem L_of_ne (g : GSem nD τ sig) (h : g.1.2 ≠ .tc) : L g = ∅ := if_neg h
theorem L_tc (g : GSem nD τ sig) (h : g.1.2 = .tc) : L g = {()} := if_pos h
theorem lv_xf (a k : Fin 4) (c : Dev nD) : lv (xf a k c) () = if a = 1 then 2 else if a = 3 then 3 else 0 := by
  revert a k c; decide

omit [FloatOps F] in
/-- A device may wait on a semaphore that comes before all it owes. -/
theorem mayWait_of (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (owed l) :=
  MayOwe.of_cut (L := L) (lev := lv) (lv ((c : Thread nD τ), sm) ())
    (fun p hp => by rw [Finset.mem_singleton.mp hp, L_tc _ rfl]; exact Finset.mem_singleton_self _)
    (fun g u hg => by
      obtain ⟨p, hp, rfl⟩ := owed_pos hg
      rw [L_tc _ (h p hp).1]; exact Finset.mem_singleton_self _)
    (fun p hp => by rw [Finset.mem_singleton.mp hp])
    (fun g u hg => by
      obtain ⟨p, hp, rfl⟩ := owed_pos hg
      exact (h p hp).2)

omit [FloatOps F] in
/-- A wait on a semaphore of level 0, with everything or nothing owed. -/
theorem mayWait_low (sw : Bool) (c : Dev nD) (q : DmaSem sig) (hq : lv ((c : Thread nD τ), .dma q) () = 0) :
    (levAts L lv : sProp 𝕄) ⊢ MayWait (c : Thread nD τ) (.dma q) () (owed (due sw c)) := by
  refine mayWait_of c _ _ fun p hp => ?_
  rw [hq]
  simp only [due, dueX, dueY, List.mem_cons, List.not_mem_nil, or_false] at hp
  rcases hp with rfl | rfl | rfl | rfl | rfl | rfl | rfl | rfl | rfl | rfl
  · exact ⟨rfl, Nat.one_pos⟩
  · exact ⟨rfl, Nat.one_pos⟩
  all_goals exact ⟨rfl, by rw [lv_xf]; decide⟩

omit [FloatOps F] in
/-- The barrier wait, with all copies owed. -/
theorem mayWait_bar (sw : Bool) (c : Dev nD) : (levAts L lv : sProp 𝕄) ⊢ MayWait (c : Thread nD τ) (.reg barS) () (owed (dueX sw c)) := by
  refine mayWait_of c _ _ fun p hp => ?_
  rw [show lv ((c : Thread nD τ), .reg barS) () = 1 from rfl]
  simp only [dueX, dueY, List.mem_cons, List.not_mem_nil, or_false] at hp
  rcases hp with rfl | rfl | rfl | rfl | rfl | rfl | rfl | rfl
  all_goals exact ⟨rfl, by rw [lv_xf]; decide⟩

omit [FloatOps F] in
/-- The wait for an arrival over the first link, with only forwarded chunks owed. -/
theorem mayWait_x (sw : Bool) (c : Dev nD) (k : Fin 4) (l : List (GSem nD τ sig × ℕ)) (hl : l ⊆ dueY sw c) :
    (levAts L lv : sProp 𝕄) ⊢ MayWait (c : Thread nD τ) (.dma (dsem 1 k)) () (owed l) := by
  refine mayWait_of c _ _ fun p hp => ?_
  have hp := hl hp
  rw [show lv ((c : Thread nD τ), .dma (dsem 1 k)) () = 2 from lv_xf 1 k c]
  simp only [dueY, List.mem_cons, List.not_mem_nil, or_false] at hp
  rcases hp with rfl | rfl | rfl | rfl
  all_goals exact ⟨rfl, by rw [lv_xf]; decide⟩

end Cert.BlockSwap
-- ==== Proof.Steps.lean ====
/-
What one operation of the kernel does under the protocol: a signal, a copy to a neighbour, a wait; and the end of a
device's part, when its counters are back at zero.
-/
module

public import proofs.«01_k».proof.Proof.Proto

@[expose] public section

noncomputable section

namespace Cert.BlockSwap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (sw : Bool) (K : Dev nD × J → ℕ)

abbrev 𝒱₀ : Variants := Variants.none

/-- What every device knows: the invariant of every semaphore of every device, and that its round has begun. -/
def records : sProp 𝕄 :=
  iprop((bigSep Finset.univ fun p : Dev nD × J => cellInv ER (sched m sw) (K p) (kcell p)) ∗ bigSep Finset.univ fun p : Dev nD × J => reached ER (kcell p) 0)

instance records_persistent : BI.Persistent (records m sw K) := by unfold records; infer_instance

omit [FloatOps F] in
theorem records_inv (p : Dev nD × J) : records m sw K ⊢ cellInv ER (sched m sw) (K p) (kcell p) := by
  unfold records
  exact sep_elim_left.trans (bigSep_elim (Φ := fun p : Dev nD × J => cellInv ER (sched m sw) (K p) (kcell p)) (Finset.mem_univ p))
omit [FloatOps F] in
theorem records_reached (p : Dev nD × J) : records m sw K ⊢ reached ER (kcell p) 0 := by
  unfold records
  exact sep_elim_right.trans (bigSep_elim (Φ := fun p : Dev nD × J => reached ER (kcell p) 0) (Finset.mem_univ p))

omit [FloatOps F] in
theorem inv_bar (c : Dev nD) : records m sw K ⊢ cellInv ER (sched m sw) (K (c, .inl ())) (bar c) := records_inv m sw K (c, .inl ())
omit [FloatOps F] in
theorem inv_xf (c : Dev nD) (a k : Fin 4) : records m sw K ⊢ cellInv ER (sched m sw) (K (c, .inr (a, k))) (xf a k c) := records_inv m sw K (c, .inr (a, k))
omit [FloatOps F] in
theorem reached_bar (c : Dev nD) : records m sw K ⊢ reached ER (bar c) 0 := records_reached m sw K (c, .inl ())
omit [FloatOps F] in
theorem reached_xf (c : Dev nD) (a k : Fin 4) : records m sw K ⊢ reached ER (xf a k c) 0 := records_reached m sw K (c, .inr (a, k))

/-- Device `c` owes the list `l`, whatever it has waited for. -/
def Owes (c : Dev nD) (l : List (GSem nD τ sig × ℕ)) : sProp 𝕄 := iprop(∃ W : Waits sig Unit, owes (c : Thread nD τ) (owed l) W)

/-- Before the wait on semaphore `a`, `k` of `c`: the right to a chunk's units, and the position. -/
def Ready (c : Dev nD) (a k : Fin 4) : sProp 𝕄 := iprop(cred (tallyAt (xf a k c) () N) ∗ atPos ER (xf a k c) 0 ∅ 0)

/-- A signal to neighbour `d`'s barrier, the duty `b` of it: what that duty hands over is given up, and the head of the debts is paid. -/
theorem step_signal (c n d : Dev nD) (hn : n = d) (b : Bool) {α : Type} {Q : α → sProp 𝕄} {k : PUnit → Prog (TpuEff nD τ sig (Elt F) Λ₀ .tc) α} (a : ℤ) (ha : a = ((1 : ℕ) : ℤ))
    (l : List (GSem nD τ sig × ℕ)) :
    iprop(records m sw K ∗ Owes c ((bar d, 1) :: l) ∗ dutyTok ER (bar d) 0 b ∗ (sched m sw).payload (bar d) 0 b)
      ⊢ iprop((Owes c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS a) k) Q) := by
  subst hn; subst ha
  unfold Owes
  iintro ⟨#HR, ⟨%W, HO⟩, Ht, Hp⟩ Hk
  rw [owed_cons]
  iapply (Rounds.wp_signal 𝒱₀ ER (sched m sw) (c : Thread nD τ) none (dst := (n : Thread nD τ)) (κ := K (n, .inl ()))
      (d := b) (by rw [duties_bar]; exact Finset.mem_univ _) (amount_bar m sw n b) () (owed l) rfl) $$ [HO Ht Hp]
  · isplitr; · iapply (inv_bar m sw K n); iexact HR
    isplitl [HO]; · iexact HO
    isplitl [Ht]; · iexact Ht
    isplitl [Hp]; · iexact Hp
    iapply (reached_bar m sw K n); iexact HR
  iintro HO
  iapply Hk
  iexists W; iexact HO

/-- The wait for both signals. -/
theorem step_barrier (c : Dev nD) {α : Type} {Q : α → sProp 𝕄} {k : PUnit → Prog (TpuEff nD τ sig (Elt F) Λ₀ .tc) α} (a : ℤ) (ha : a = ((2 : ℕ) : ℤ)) :
    iprop(records m sw K ∗ levAts L lv ∗ cred (tallyAt (bar c) () 2) ∗ Owes c (dueX sw c) ∗ atPos ER (bar c) 0 ∅ 0)
      ⊢ iprop(((Owes c (dueX sw c) ∗ atPos ER (bar c) 1 ∅ 0 ∗ lend sw (px c) (half c) ∗ lend sw (py c) (half c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS a) k) Q) := by
  subst ha
  unfold Owes
  iintro ⟨#HR, #Hlev, Hc, ⟨%W, HO⟩, Hat⟩ Hk
  iapply (Rounds.wp_wait_rest_token 𝒱₀ ER (sched m sw) (c : Thread nD τ) none (κ := K (c, .inl ()))
      (wpE_semWait_eq 𝒱₀ (c : Thread nD τ) none Set.univ) (Set.mem_univ _) () (O := owed (dueX sw c)) (W := W) (R := 0) (m := 0) (T := ∅)
      (by rw [expect_bar])) $$ [Hc HO Hat]
  · isplitr; · iapply (inv_bar m sw K c); iexact HR
    isplitl [Hc]; · iexact Hc
    isplitl [HO]; · iexact HO
    isplitr; · iapply (mayWait_bar sw c); iexact Hlev
    iexact Hat
  iintro ⟨HO, Hat, -, Hpay⟩
  ihave Hp := (Entails.of_eq (rest_bar m sw c)) $$ Hpay
  iapply Hk
  isplitl [HO]; · iexists _; iexact HO
  isplitl [Hat]; · iexact Hat
  iexact Hp

/-- A wait for the copy on semaphore `a`, `k`. -/
theorem step_wait (c : Dev nD) (a k : Fin 4) {sm : DmaSem sig} (hsm : sm = dsem a k) {src dst : Memref sig .tc .vmem S1x64x512 .f32}
    (hN : dst.view.dmaCredit = N) {hs : src.view.WordExact} {hd : dst.view.WordExact}
    {α : Type} {Q : α → sProp 𝕄} {kk : PUnit → Prog (TpuEff nD τ sig (Elt F) Λ₀ .tc) α} (l : List (GSem nD τ sig × ℕ))
    (hl : (levAts L lv : sProp 𝕄) ⊢ MayWait (c : Thread nD τ) (.dma (dsem a k)) () (owed l)) :
    iprop(records m true K ∗ levAts L lv ∗ Owes c l ∗ Ready c a k)
      ⊢ iprop(((Owes c l ∗ atPos ER (xf a k c) 1 ∅ 0 ∗ xferPay m c a k)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hs hd) kk) Q) := by
  subst hsm
  unfold Owes Ready
  iintro ⟨#HR, #Hlev, ⟨%W, HO⟩, Hc, Hat⟩ Hk
  rw [← hN]
  iapply (Rounds.wp_wait_rest_token 𝒱₀ ER (sched m true) (c : Thread nD τ) none (κ := K (c, .inr (a, k)))
      (wpE_waitDma2_eq 𝒱₀ (c : Thread nD τ) none Set.univ) (Set.mem_univ _) () (O := owed l) (W := W) (R := 0) (m := 0) (T := ∅)
      (by rw [Nat.zero_add, expect_xf, hN])) $$ [Hc HO Hat]
  · isplitr; · iapply (inv_xf m true K c a k); iexact HR
    isplitl [Hc]; · iexact Hc
    isplitl [HO]; · iexact HO
    isplitr; · iapply hl; iexact Hlev
    iexact Hat
  iintro ⟨HO, Hat, -, Hpay⟩
  ihave Hp := (Entails.of_eq (rest_xf m c a k)) $$ Hpay
  iapply Hk
  isplitl [HO]; · iexists _; iexact HO
  isplitl [Hat]; · iexact Hat
  iexact Hp

/-- A copy to device `d`, raising `a`, `k` here and `b`, `k` there: the chunk and the room for it are given up; the right to
    wait for its reading comes back, and the head of the debts is paid. -/
theorem step_send (c n d : Dev nD) (hn : n = d) (a b k : Fin 4) {sS sR : DmaSem sig} (hS : sS = dsem a k) (hR : sR = dsem b k)
    {src dst src' dst' : Memref sig .tc .vmem S1x64x512 .f32} (hsrc : src = src') (hdst : dst = dst')
    {hsc : (dst : Memref sig (Dev.tc n : Thread nD τ).2.kind .vmem S1x64x512 .f32).view.ref.isScScratch = false}
    {hs : src.view.WordExact} {hd : (dst : Memref sig (Dev.tc n : Thread nD τ).2.kind .vmem S1x64x512 .f32).view.WordExact}
    {hsem : DmaTarget.Typed .vmem (.dma sR) (.remote (Dev.tc n : Thread nD τ) (dst : Memref sig (Dev.tc n : Thread nD τ).2.kind .vmem S1x64x512 .f32) (.dma sS) hsc)}
    {α : Type} {Q : α → sProp 𝕄} {kk : PUnit → Prog (TpuEff nD τ sig (Elt F) Λ₀ .tc) α} (hN : dst'.view.dmaCredit = N)
    (fs : Buf (Elt F) (src'.view.loc (c : Thread nD τ))) (fd : Buf (Elt F) (dst'.view.loc (d : Thread nD τ)))
    (h₁ : (src'.view.loc (c : Thread nD τ) ↦[src'.view.set]{fullShare} fs : sProp 𝕄) ⊢ xferPay m c a k)
    (h₂ : (dst'.view.loc (d : Thread nD τ) ↦[dst'.view.set]{fullShare} dst'.view.write (Elt F) fd (src'.view.read (Elt F) fs) Finset.univ : sProp 𝕄)
      ⊢ xferPay m d b k)
    (l : List (GSem nD τ sig × ℕ)) :
    iprop(records m true K ∗ Owes c ((xf b k d, N) :: l)
        ∗ (src'.view.loc (c : Thread nD τ) ↦[src'.view.set]{fullShare} fs) ∗ (dst'.view.loc (d : Thread nD τ) ↦[dst'.view.set]{fullShare} fd)
        ∗ dutyTok ER (xf a k c) 0 false ∗ dutyTok ER (xf b k d) 0 false ∗ atPos ER (xf a k c) 0 ∅ 0)
      ⊢ iprop(((Owes c l ∗ Ready c a k) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hs hd hsem) kk) Q) := by
  subst hn hS hR hsrc hdst
  unfold Owes Ready
  iintro ⟨#HR, ⟨%W, HO⟩, Hsrc, Hdst, Ht, Ht', Hat⟩ Hk
  iapply (Rounds.wp_send_pointsTo 𝒱₀ ER (sched m true) (c : Thread nD τ) none (κ₁ := K (c, .inr (a, k))) (κ₂ := K (n, .inr (b, k)))
    (r₁ := 0) (r₂ := 0) (d₁ := false) (d₂ := false) (fd := fd) (fs := fs)
    (by rw [duties_xf]; exact Finset.mem_singleton_self _) (by rw [duties_xf]; exact Finset.mem_singleton_self _)
    () () N (show dst.view.amount (.dma (dsem b k)) = N from hN) (amount_xf m true c a k false) (amount_xf m true n b k false) (owed l) (owed_cons (xf b k n, N) l) (W := W)
    (by rw [payload_xf]; exact h₁) (by rw [payload_xf]; exact h₂)) $$ [HO Hsrc Hdst Ht Ht']
  · isplitr; · iapply (inv_xf m true K c a k); iexact HR
    isplitr; · iapply (inv_xf m true K n b k); iexact HR
    isplitl [Hsrc]; · iexact Hsrc
    isplitl [Hdst]; · iexact Hdst
    isplitl [HO]; · iexact HO
    isplitl [Ht]; · iexact Ht
    isplitr; · iapply (reached_xf m true K c a k); iexact HR
    isplitl [Ht']; · iexact Ht'
    iapply (reached_xf m true K n b k); iexact HR
  iintro ⟨Hc, HO⟩
  iapply Hk
  isplitl [HO]; · iexists W; iexact HO
  isplitl [Hc]; · iexact Hc
  iexact Hat

/-- The staged block and the staged result of device `d`. -/
abbrev xLoc (d : Dev nD) : Loc nD τ sig := (d : Thread nD τ).loc cc0_stg1_0
abbrev oLoc (d : Dev nD) : Loc nD τ sig := (d : Thread nD τ).loc cc0_stg2_0

omit [FloatOps F] in
theorem xPts_eq (d : Dev nD) (h : Fin 2) (k : Fin 4) (f : Buf (Elt F) (xLoc d)) :
    (xPts d h k f : sProp 𝕄) = ((xC h k).view.loc (d : Thread nD τ) ↦[(xC h k).view.set]{fullShare} f) := by
  unfold xPts; rw [View.set_slice_whole]
omit [FloatOps F] in
theorem oPts_eq (d : Dev nD) (h : Fin 2) (k : Fin 4) (f : Buf (Elt F) (oLoc d)) :
    (oPts d h k f : sProp 𝕄) = ((oC h k).view.loc (d : Thread nD τ) ↦[(oC h k).view.set]{fullShare} f) := by
  unfold oPts; rw [View.set_slice_whole]

/-- Before chunk `k` of the device's own block is sent to `px c`. -/
def SendX (c : Dev nD) (k : Fin 4) : sProp 𝕄 :=
  iprop(xPts c (half c) k (xstg m c) ∗ dutyTok ER (xf 0 k c) 0 false ∗ dutyTok ER (xf 1 k (px c)) 0 false ∗ atPos ER (xf 0 k c) 0 ∅ 0)
/-- Before the chunk that came is sent on to `py c`. -/
def SendY (c : Dev nD) (k : Fin 4) : sProp 𝕄 :=
  iprop(dutyTok ER (xf 2 k c) 0 false ∗ dutyTok ER (xf 3 k (py c)) 0 false ∗ atPos ER (xf 2 k c) 0 ∅ 0)

/-- The copy of chunk `k` to `px c`: it will hold what `px c`'s result is to hold. -/
theorem step_sendX (c n : Dev nD) (hn : n = px c) (k : Fin 4) {sS sR : DmaSem sig} (hS : sS = dsem 0 k) (hR : sR = dsem 1 k)
    {src dst : Memref sig .tc .vmem S1x64x512 .f32} (hsrc : src = xC (half c) k) (hdst : dst = oC (half c) k)
    {hsc : (dst : Memref sig (Dev.tc n : Thread nD τ).2.kind .vmem S1x64x512 .f32).view.ref.isScScratch = false}
    {hs : src.view.WordExact} {hd : (dst : Memref sig (Dev.tc n : Thread nD τ).2.kind .vmem S1x64x512 .f32).view.WordExact}
    {hsem : DmaTarget.Typed .vmem (.dma sR) (.remote (Dev.tc n : Thread nD τ) (dst : Memref sig (Dev.tc n : Thread nD τ).2.kind .vmem S1x64x512 .f32) (.dma sS) hsc)}
    {α : Type} {Q : α → sProp 𝕄} {kk : PUnit → Prog (TpuEff nD τ sig (Elt F) Λ₀ .tc) α} (fd : Buf (Elt F) (oLoc (px c))) (l : List (GSem nD τ sig × ℕ)) :
    iprop(records m true K ∗ Owes c ((xf 1 k (px c), N) :: l) ∗ SendX m c k ∗ oPts (px c) (half c) k fd)
      ⊢ iprop(((Owes c l ∗ Ready c 0 k) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hs hd hsem) kk) Q) := by
  unfold SendX
  iintro ⟨#HR, HO, ⟨Hx, Ht, Ht', Hat⟩, Ho⟩
  iapply (step_send m K c n (px c) hn 0 1 k hS hR hsrc hdst rfl (xstg m c) fd
    (by rw [View.set_slice_whole]; exact BI.Entails.refl _)
    (by
      rw [View.set_slice_whole]
      refine Entails.of_eq ((write_chunk (px c) (half c) k fd (xstg m c) _ fun j => rfl).trans ?_)
      show oPts (px c) (half c) k (xstg m c) = oPts (px c) (half (px c)) k (outAt m true (px c))
      rw [half_px]
      refine oPts_congr _ _ _ _ _ fun i hi => ?_
      rw [outAt_own m (px c) i (by rw [half_px]; exact hi), px_px]) l) $$ [HO Hx Ht Ht' Hat Ho]
  isplitr; · iexact HR
  isplitl [HO]; · iexact HO
  isplitl [Hx]; · iapply (Entails.of_eq (xPts_eq c (half c) k (xstg m c))); iexact Hx
  isplitl [Ho]; · iapply (Entails.of_eq (oPts_eq (px c) (half c) k fd)); iexact Ho
  isplitl [Ht]; · iexact Ht
  isplitl [Ht']; · iexact Ht'
  iexact Hat

/-- The copy of the arrived chunk `k` to `py c`: it will hold what `py c`'s result is to hold. -/
theorem step_sendY (c n : Dev nD) (hn : n = py c) (k : Fin 4) {sS sR : DmaSem sig} (hS : sS = dsem 2 k) (hR : sR = dsem 3 k)
    {src dst : Memref sig .tc .vmem S1x64x512 .f32} (hsrc : src = oC (half c) k) (hdst : dst = oC (half c) k)
    {hsc : (dst : Memref sig (Dev.tc n : Thread nD τ).2.kind .vmem S1x64x512 .f32).view.ref.isScScratch = false}
    {hs : src.view.WordExact} {hd : (dst : Memref sig (Dev.tc n : Thread nD τ).2.kind .vmem S1x64x512 .f32).view.WordExact}
    {hsem : DmaTarget.Typed .vmem (.dma sR) (.remote (Dev.tc n : Thread nD τ) (dst : Memref sig (Dev.tc n : Thread nD τ).2.kind .vmem S1x64x512 .f32) (.dma sS) hsc)}
    {α : Type} {Q : α → sProp 𝕄} {kk : PUnit → Prog (TpuEff nD τ sig (Elt F) Λ₀ .tc) α} (fd : Buf (Elt F) (oLoc (py c))) (l : List (GSem nD τ sig × ℕ)) :
    iprop(records m true K ∗ Owes c ((xf 3 k (py c), N) :: l) ∗ SendY c k ∗ oPts (py c) (half c) k fd ∗ xferPay m c 1 k)
      ⊢ iprop(((Owes c l ∗ Ready c 2 k) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hs hd hsem) kk) Q) := by
  unfold SendY
  iintro ⟨#HR, HO, ⟨Ht, Ht', Hat⟩, Ho, Hx⟩
  iapply (step_send m K c n (py c) hn 2 3 k hS hR hsrc hdst rfl (outAt m true c) fd
    (by rw [View.set_slice_whole]; exact BI.Entails.refl _)
    (by
      rw [View.set_slice_whole]
      refine Entails.of_eq ((write_chunk (py c) (half c) k fd (outAt m true c) _ fun j => rfl).trans ?_)
      show oPts (py c) (half c) k (outAt m true c) = oPts (py c) (half (py (py c))) k (outAt m true (py c))
      rw [py_py]
      refine oPts_congr _ _ _ _ _ fun i hi => ?_
      rw [outAt_other m (py c) i (by rw [py_py]; exact hi), py_py]) l) $$ [HO Hx Ht Ht' Hat Ho]
  isplitr; · iexact HR
  isplitl [HO]; · iexact HO
  isplitl [Hx]; · iapply (Entails.of_eq (show xferPay m c 1 k = _ from oPts_eq c (half c) k (outAt m true c))); iexact Hx
  isplitl [Ho]; · iapply (Entails.of_eq (oPts_eq (py c) (half c) k fd)); iexact Ho
  isplitl [Ht]; · iexact Ht
  isplitl [Ht']; · iexact Ht'
  iexact Hat

omit [FloatOps F] in
/-- With a persistent fact at hand, each member of a finite conjunction may be exchanged for another. -/
theorem bigSep_trade {I : Type} [DecidableEq I] (S : Finset I) (R : sProp 𝕄) [BI.Persistent R] (Φ Ψ : I → sProp 𝕄)
    (h : ∀ i, iprop(R ∗ Φ i) ⊢ Ψ i) : iprop(R ∗ bigSep S Φ) ⊢ bigSep S Ψ := by
  induction S using Finset.induction_on with
  | empty => rw [bigSep_empty, bigSep_empty]; exact sep_elim_right
  | insert i S hi ih =>
    rw [bigSep_insert hi, bigSep_insert hi]
    show iprop(R ∗ Φ i ∗ bigSep S Φ) ⊢ iprop(Ψ i ∗ bigSep S Ψ)
    iintro ⟨#HR, Hi, HS⟩
    isplitl [Hi]
    · iapply (h i); isplitr; · iexact HR
      iexact Hi
    iapply ih; isplitr; · iexact HR
    iexact HS

/-- All sixteen counters of a device are back at zero, once its positions are past every duty. -/
theorem close_all (c : Dev nD) (r : ℕ) (hr : ∀ a k : Fin 4, ∀ r', r ≤ r' → (sched (F := F) m sw).duties (xf a k c) r' = ∅) :
    iprop(records m sw K ∗ bigSep Finset.univ fun p : Fin 4 × Fin 4 => atPos ER (xf p.1 p.2 c) r ∅ 0)
      ⊢ |={Set.univ}=> bigSep Finset.univ fun p : Fin 4 × Fin 4 => semVal (xf p.1 p.2 c) 0 := by
  refine BI.Entails.trans (bigSep_trade _ (records m sw K) _ (fun p : Fin 4 × Fin 4 => iprop(|={Set.univ}=> semVal (xf p.1 p.2 c) 0)) fun p => ?_) (bigSep_fupd _ _)
  iintro ⟨#HR, Hat⟩
  iapply (Rounds.cell_close ER (sched m sw) (Set.mem_univ (K (c, .inr (p.1, p.2)))) (fun h => h) (R := r) (hr p.1 p.2)) $$ [Hat]
  isplitr; · iapply (inv_xf m sw K c p.1 p.2); iexact HR
  iexact Hat

end Cert.BlockSwap
-- ==== Proof.Body.lean ====
/-
One device's run of the kernel's body, for either table: from what the launch gives it to its staged result at `outAt`, its
staged inputs as they were, and all its counters at zero.
-/
module

public import proofs.«01_k».proof.Proof.Steps
public import Idealize.ShloMosaic.Lib.Pipeline.Value

@[expose] public section

noncomputable section

namespace Cert.BlockSwap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## The table's word -/

set_option backward.proofsInPublic true in
/-- The place of device `c`'s word in the table: its coordinate `x`. -/
def tblIdx (c : Dev nD) : S2.Idx := fun a => ⟨c.val / 2, by
  have h : c.val < 4 := c.isLt
  have h' : ∀ a, S2.size a = 2 := by decide
  rw [h' a]; omega⟩
/-- What the table says there: the other block if the blocks are exchanged, else the same. -/
def goalW (c : Dev nD) : BitVec 32 := if sw then BitVec.ofNat 32 (1 - c.val / 2) else BitVec.ofNat 32 (c.val / 2)
/-- Every device's staged table is that of `sw`, as far as the device reads it. -/
def TableOK : Prop := ∀ c : Dev nD, (pstg m c : S2.Idx → BitVec 32) (tblIdx c) = goalW sw c

abbrev pR (c : Dev nD) : Rect S2 := Rect.unit (s := S2) (k0_off1 c) S1.size (k0_off1_inb c)

omit [FloatOps F] in
/-- The word that the body loads. -/
theorem load_word (c : Dev nD) (f : (cc0_stg0_0 : Ref sig .tc).ty.Contents (Elt F)) (x : (pR c).shape.Idx) :
    (pM.access (pR c)).read (Elt F) f x = (f : S2.Idx → BitVec 32) (tblIdx c) := by
  show f (((pM.access (pR c))).emb x) = _
  congr 1
  funext a
  apply Fin.ext
  show k0_off1 c a + 1 * (x a).val = c.val / 2
  rw [k0_off1_eq]
  have h1 : ∀ a, (pR c).shape.size a = 1 := by show ∀ a : Fin S1.rank, S1.size a = 1; decide
  have : (x a).val < 1 := (h1 a) ▸ (x a).isLt
  have e : (![c.val / 2] : Fin 1 → ℕ) a = c.val / 2 := by fin_cases a; rfl
  omega

theorem chk_goal : ∀ c : Dev nD, k0_chk1 c (goalW sw c) := by cases sw <;> decide +kernel
theorem cond_swap : ∀ c : Dev nD, k0_cond2 c (goalW true c) = 1#1 := by decide +kernel
theorem cond_stay : ∀ c : Dev nD, ¬ k0_cond2 c (goalW false c) = 1#1 := by decide +kernel
/-- The test of the other branch, as the body computes it. -/
abbrev same (c : Dev nD) (w : BitVec 32) : BitVec 1 :=
  Scalar.cmpi .ne (Scalar.extui (Scalar.cmpi .eq w (Scalar.remsi (Scalar.divsi (Dev.word c) 2#32) 2#32)) : BitVec 32) 0#32
theorem same_swap : ∀ c : Dev nD, ¬ same c (goalW true c) = 1#1 := by decide +kernel
theorem same_stay : ∀ c : Dev nD, same c (goalW false c) = 1#1 := by decide +kernel

theorem dev1_px (c : Dev nD) (h : k0_dev1 c < nD) : (⟨k0_dev1 c, h⟩ : Dev nD) = px c := by
  apply Fin.ext; revert c; decide +kernel
theorem dev2_py (c : Dev nD) (h : k0_dev2 c < nD) : (⟨k0_dev2 c, h⟩ : Dev nD) = py c := by
  apply Fin.ext; revert c; decide +kernel
theorem devX (c : Dev nD) : k0_dev3 c (goalW true c) = (px c).val ∧ k0_dev4 c (goalW true c) = (px c).val
    ∧ k0_dev5 c (goalW true c) = (px c).val ∧ k0_dev6 c (goalW true c) = (px c).val := by revert c; decide +kernel
theorem devY (c : Dev nD) : k0_dev7 c = (py c).val ∧ k0_dev8 c = (py c).val ∧ k0_dev9 c = (py c).val ∧ k0_dev10 c = (py c).val := by
  revert c; decide +kernel

/-! ## What a device starts from and ends with -/

/-- The device at the other end of a copy that raises semaphore `a` of it, resp. of which semaphore `a` of the sender: itself
    for the send semaphores. -/
def peer (a : Fin 4) (c : Dev nD) : Dev nD := match a with
  | 0 => c
  | 1 => px c
  | 2 => c
  | 3 => py c

/-- The ghost state of device `c`: what everybody knows, its positions, and the tokens of what it is going to pay. -/
def ghost (K : Dev nD × J → ℕ) (c : Dev nD) : sProp 𝕄 :=
  iprop(records m sw K ∗ atPos ER (bar c) 0 ∅ 0 ∗ dutyTok ER (bar (px c)) 0 false ∗ dutyTok ER (bar (py c)) 0 true
    ∗ (bigSep Finset.univ fun p : Fin 4 × Fin 4 => atPos ER (xf p.1 p.2 c) 0 ∅ 0)
    ∗ bigSep Finset.univ fun p : Fin 4 × Fin 4 => dutyTok ER (xf p.1 p.2 (peer p.1 c)) 0 false)

/-- With the units that will arrive for it, and the levels. -/
def start (c : Dev nD) : sProp 𝕄 :=
  iprop((∃ K, ghost m sw K c) ∗ cred (tallyAt (bar c) () 2)
    ∗ (bigSep Finset.univ fun k : Fin 4 => cred (tallyAt (xf 1 k c) () (amt sw))) ∗ (bigSep Finset.univ fun k : Fin 4 => cred (tallyAt (xf 3 k c) () (amt sw)))
    ∗ levAts L lv)

/-- All its counters at zero. -/
def finish (c : Dev nD) : sProp 𝕄 := iprop((bigSep Finset.univ fun p : Fin 4 × Fin 4 => semVal (xf p.1 p.2 c) 0) ∗ semVal (bar c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m c
    | ⟨1, _⟩ => xstg m c
    | ⟨2, _⟩ => outAt m sw c
  Φ t := match t with
    | ⟨0, _⟩ => start m sw c
    | ⟨_ + 1, _⟩ => finish c
  q _ := fullShare
  owed t := match t with
    | ⟨0, _⟩ => owed (due sw c)
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-! ## The handshake -/

/-- What a device keeps of its result buffer over the handshake: all of it if the blocks stay. -/
def keep (c : Dev nD) : sProp 𝕄 := if sw then iprop(emp) else iprop(∃ f : Buf (Elt F) (oLoc c), oLoc c ↦{fullShare} f)

omit [FloatOps F] in
/-- The result buffer as it is lent out. -/
theorem lend_out (c : Dev nD) (f : Buf (Elt F) (oLoc c)) :
    (oLoc c ↦{fullShare} f : sProp 𝕄) ⊢ iprop(lend sw c (half c) ∗ lend sw c (half (py c)) ∗ keep sw c) := by
  unfold lend keep
  cases sw
  · rw [if_neg Bool.false_ne_true, if_neg Bool.false_ne_true, if_neg Bool.false_ne_true]
    iintro H
    isplitr; · iempintro
    isplitr; · iempintro
    iexists f; iexact H
  · rw [if_pos rfl, if_pos rfl, if_pos rfl, o_split]
    iintro ⟨H, H'⟩
    isplitl [H]; · iexists f; iexact H
    isplitl [H']; · iexists f; iexact H'
    iempintro

/-- The two signals and the wait for two. -/
theorem handshake (K : Dev nD × J → ℕ) (c n n' : Dev nD) (hn : n = px c) (hn' : n' = py c) (a a' b : ℤ) (ha : a = ((1 : ℕ) : ℤ)) (ha' : a' = ((1 : ℕ) : ℤ))
    (hb : b = ((2 : ℕ) : ℤ)) (f : Buf (Elt F) (oLoc c))
    {α : Type} {Q : α → sProp 𝕄} {kk : PUnit → Prog (TpuEff nD τ sig (Elt F) Λ₀ .tc) α} :
    iprop(records m sw K ∗ levAts L lv ∗ Owes c (due sw c) ∗ atPos ER (bar c) 0 ∅ 0 ∗ dutyTok ER (bar (px c)) 0 false ∗ dutyTok ER (bar (py c)) 0 true
        ∗ cred (tallyAt (bar c) () 2) ∗ (oLoc c ↦{fullShare} f))
      ⊢ iprop(((Owes c (dueX sw c) ∗ atPos ER (bar c) 1 ∅ 0 ∗ lend sw (px c) (half c) ∗ lend sw (py c) (half c) ∗ keep sw c)
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.semSignal (n : Thread nD τ) barS a) fun _ => .op (.semSignal (n' : Thread nD τ) barS a') fun _ => .op (.semWait barS b) kk) Q) := by
  iintro ⟨#HR, #Hlev, HO, Hat, Ht, Ht', Hc, Hout⟩ Hk
  ihave H3 := (lend_out sw c f) $$ Hout
  icases H3 with ⟨Hl, Hl', Hkeep⟩
  unfold due
  iapply (step_signal m sw K c n (px c) hn false a ha ((bar (py c), 1) :: dueX sw c)) $$ [HO Ht Hl]
  · isplitr; · iexact HR
    isplitl [HO]; · iexact HO
    isplitl [Ht]; · iexact Ht
    rw [payload_bar_px, px_px, half_px]; iexact Hl
  iintro HO
  iapply (step_signal m sw K c n' (py c) hn' true a' ha' (dueX sw c)) $$ [HO Ht' Hl']
  · isplitr; · iexact HR
    isplitl [HO]; · iexact HO
    isplitl [Ht']; · iexact Ht'
    rw [payload_bar_py, py_py]; iexact Hl'
  iintro HO
  iapply (step_barrier m sw K c b hb) $$ [HO Hc Hat]
  · isplitr; · iexact HR
    isplitr; · iexact Hlev
    isplitl [Hc]; · iexact Hc
    isplitl [HO]; · iexact HO
    iexact Hat
  iintro ⟨HO, Hat, H1, H2⟩
  iapply Hk
  isplitl [HO]; · iexact HO
  isplitl [Hat]; · iexact Hat
  isplitl [H1]; · iexact H1
  isplitl [H2]; · iexact H2
  iexact Hkeep

theorem amt_false : amt false = 0 := rfl
theorem amt_true : amt true = N := rfl

theorem tallyAt_nothing (g : GSem nD τ sig) : tallyAt g () 0 = (0 : CellTallies nD τ sig Unit) := by
  funext g'; refine Finsupp.ext fun u => ?_; rw [tallyAt_apply]; split <;> rfl

/-- If the blocks stay, no copy is owed. -/
theorem owed_dueX_false (c : Dev nD) : owed (dueX false c) = 0 := by
  unfold dueX dueY
  simp only [owed_cons, owed_nil, amt_false, tallyAt_nothing, add_zero]

omit [FloatOps F] in
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-! ## The body -/

section Body

variable (K : Dev nD × J → ℕ) (c : Dev nD)

abbrev full3 : Rect S1x512x512 := Rect.unit (s := S1x512x512) ![0, 0, 0] S1x512x512.size inb_S1x512x512_S1x512x512_0_0_0

theorem zero3 : (![0, 0, 0] : Fin 3 → ℕ) = fun _ => 0 := funext fun a => by fin_cases a <;> rfl
omit [FloatOps F] in
theorem read_block (f : (cc0_stg1_0 : Ref sig .tc).ty.Contents (Elt F)) : (xM : Memref sig .tc .vmem S1x512x512 .f32).view.readAt (Elt F) full3.toLoadRect f = f :=
  Memref.readAt_unit_zero (Elt F) cc0_stg1_0 zero3 _ f
omit [FloatOps F] in
theorem write_result (f w : (cc0_stg2_0 : Ref sig .tc).ty.Contents (Elt F)) :
    ((oM : Memref sig .tc .vmem S1x512x512 .f32).access full3 : View sig .tc _ _ _).write (Elt F) f w Finset.univ = w :=
  Memref.write_access_unit_zero_univ (Elt F) cc0_stg2_0 zero3 _ f w
/-- The stored value is the loaded one. -/
theorem pay_eq (v : Vec F S1x512x512 .f32) : k0_pay1 v = v := shapeCast_self _ _

/-- A staged buffer at contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost m sw K c ∗ cred (tallyAt (bar c) () 2)
      ∗ (bigSep Finset.univ fun k : Fin 4 => cred (tallyAt (xf 1 k c) () (amt sw))) ∗ (bigSep Finset.univ fun k : Fin 4 => cred (tallyAt (xf 3 k c) () (amt sw)))
      ∗ levAts L lv)
    ∗ (dats m ρ sw 0 c).owesAt () t0_0.castSucc
    ∗ (∃ d, stg c cc0_stg0_0 ((dats m ρ sw 0 c).before (0 : Fin 3) t0_0 d))
    ∗ (∃ d, stg c cc0_stg1_0 ((dats m ρ sw 0 c).before (1 : Fin 3) t0_0 d))
    ∗ (∃ d, stg c cc0_stg2_0 ((dats m ρ sw 0 c).before (2 : Fin 3) t0_0 d)))

def bodyPost : sProp 𝕄 :=
  iprop(finish c ∗ (dats m ρ sw 0 c).owesAt () t0_0.succ ∗ stg c cc0_stg0_0 (pstg m c) ∗ stg c cc0_stg1_0 (xstg m c) ∗ stg c cc0_stg2_0 (outAt m sw c))

/-- The end of either run: the barrier's and the sixteen counters are taken back. -/
theorem wind_up (r : ℕ) (hr : ∀ a k : Fin 4, ∀ r', r ≤ r' → (sched (F := F) m sw).duties (xf a k c) r' = ∅) (Kt : PUnit → sProp 𝕄) :
    iprop(records m sw K ∗ Owes c [] ∗ atPos ER (bar c) 1 ∅ 0 ∗ (bigSep Finset.univ fun p : Fin 4 × Fin 4 => atPos ER (xf p.1 p.2 c) r ∅ 0)
        ∗ (((c : Thread nD τ).loc cc0_stg0_0) ↦{fullShare} pstg m c) ∗ (xLoc c ↦{fullShare} xstg m c) ∗ (oLoc c ↦{fullShare} outAt m sw c)
        ∗ (bodyPost m ρ sw c -∗ Kt ⟨⟩))
      ⊢ wp frame (wpE (defs₀ (F := F)) 𝒱₀ (c : Thread nD τ) none) Set.univ (Prog.ret ⟨⟩) Kt := by
  rw [wp_ret]
  unfold Owes
  iintro ⟨#HR, ⟨%W, HO⟩, Hat, Hats, Hp, Hx, Ho, Hk⟩
  imod (Rounds.cell_close ER (sched m sw) (Set.mem_univ (K (c, .inl ()))) (fun h => h) (R := 1) (fun r' h => duties_later m sw (bar c) r' h)) $$ [Hat] with Hz
  · isplitr; · iapply (inv_bar m sw K c); iexact HR
    iexact Hat
  imod (close_all m sw K c r hr) $$ [Hats] with Hzs
  · isplitr; · iexact HR
    iexact Hats
  imodintro
  iapply Hk
  unfold bodyPost finish Dat.owesAt Pipeline.owesWithin
  rw [show (dats m ρ sw 0 c).owed t0_0.succ = 0 from rfl]
  isplitl [Hz Hzs]
  · isplitl [Hzs]; · iexact Hzs
    iexact Hz
  isplitl [HO]
  · iexists W
    isplitr; · ipureintro; exact fun _ _ => Or.inl trivial
    iexact HO
  isplitl [Hp]
  · iexists _; isplitr; · (ipureintro; rfl)
    iexact Hp
  isplitl [Hx]
  · iexists _; isplitr; · (ipureintro; rfl)
    iexact Hx
  iexists _; isplitr; · (ipureintro; rfl)
  iexact Ho

omit [FloatOps F] in
theorem keep_false (d : Dev nD) : (keep false d : sProp 𝕄) ⊢ iprop(∃ f : Buf (Elt F) (oLoc d), oLoc d ↦{fullShare} f) := by
  unfold keep; rw [if_neg Bool.false_ne_true]
omit [FloatOps F] in
theorem lend_true (d : Dev nD) (h : Fin 2) : (lend true d h : sProp 𝕄) ⊢ iprop(∃ f, bigSep Finset.univ fun k => oPts d h k f) := by
  unfold lend; rw [if_pos rfl]

omit [FloatOps F] in
theorem bigSep_sixteen (Φ : Fin 4 × Fin 4 → sProp 𝕄) :
    bigSep Finset.univ Φ = iprop((bigSep Finset.univ fun k => Φ (0, k)) ∗ (bigSep Finset.univ fun k => Φ (1, k))
      ∗ (bigSep Finset.univ fun k => Φ (2, k)) ∗ bigSep Finset.univ fun k => Φ (3, k)) :=
  (bigSep_univ_prod Φ).trans (bigSep_four _)

omit [FloatOps F] in
/-- What a device starts the exchange with, dealt out over the copies and the waits. -/
theorem deal :
    iprop((bigSep Finset.univ fun p : Fin 4 × Fin 4 => atPos ER (xf p.1 p.2 c) 0 ∅ 0)
        ∗ (bigSep Finset.univ fun p : Fin 4 × Fin 4 => dutyTok ER (xf p.1 p.2 (peer p.1 c)) 0 false)
        ∗ (bigSep Finset.univ fun k : Fin 4 => cred (tallyAt (xf 1 k c) () (amt true))) ∗ (bigSep Finset.univ fun k : Fin 4 => cred (tallyAt (xf 3 k c) () (amt true)))
        ∗ (xLoc c ↦{fullShare} xstg m c))
      ⊢ iprop((bigSep Finset.univ fun k => SendX m c k) ∗ (bigSep Finset.univ fun k => SendY (F := F) c k)
        ∗ (bigSep Finset.univ fun k => Ready c 1 k) ∗ (bigSep Finset.univ fun k => Ready c 3 k) ∗ bigSep Finset.univ fun k => xPts c (half (py c)) k (xstg m c)) := by
  rw [bigSep_sixteen, bigSep_sixteen, x_split]
  unfold SendX SendY Ready
  simp only [bigSep_sep', amt_true]
  iintro ⟨⟨A0, A1, A2, A3⟩, ⟨T0, T1, T2, T3⟩, C1, C3, X, X'⟩
  isplitl [A0 T0 T1 X]
  · isplitl [X]; · iexact X
    isplitl [T0]; · iexact T0
    isplitl [T1]; · iexact T1
    iexact A0
  isplitl [A2 T2 T3]
  · isplitl [T2]; · iexact T2
    isplitl [T3]; · iexact T3
    iexact A2
  isplitl [A1 C1]
  · isplitl [C1]; · iexact C1
    iexact A1
  isplitl [A3 C3]
  · isplitl [C3]; · iexact C3
    iexact A3
  iexact X'

/-- After the wait on semaphore `a`, `k`. -/
def Past (a k : Fin 4) : sProp 𝕄 := iprop(atPos ER (xf a k c) 1 ∅ 0 ∗ xferPay m c a k)

omit [FloatOps F] in
theorem Past.mk (a k : Fin 4) : iprop(atPos ER (xf a k c) 1 ∅ 0 ∗ xferPay m c a k) ⊢ Past m c a k := BI.Entails.refl _

omit [FloatOps F] in
/-- After the exchange, put together again: the positions, the staged block and the staged result. -/
theorem gather :
    iprop((bigSep Finset.univ fun k => Past m c 0 k) ∗ (bigSep Finset.univ fun k => atPos ER (xf 1 k c) 1 ∅ 0)
        ∗ (bigSep Finset.univ fun k => Past m c 2 k) ∗ (bigSep Finset.univ fun k => Past m c 3 k)
        ∗ bigSep Finset.univ fun k => xPts c (half (py c)) k (xstg m c))
      ⊢ iprop((bigSep Finset.univ fun p : Fin 4 × Fin 4 => atPos ER (xf p.1 p.2 c) 1 ∅ 0)
        ∗ (xLoc c ↦{fullShare} xstg m c) ∗ (oLoc c ↦{fullShare} outAt m true c)) := by
  rw [bigSep_sixteen, x_split, o_split]
  unfold Past
  simp only [bigSep_sep']
  iintro ⟨⟨A0, P0⟩, A1, ⟨A2, P2⟩, ⟨A3, P3⟩, X'⟩
  isplitl [A0 A1 A2 A3]
  · isplitl [A0]; · iexact A0
    isplitl [A1]; · iexact A1
    isplitl [A2]; · iexact A2
    iexact A3
  isplitl [P0 X']
  · isplitl [P0]; · iexact P0
    iexact X'
  isplitl [P2]; · iexact P2
  iexact P3

omit [FloatOps F] in
theorem mayWait_nil (a k : Fin 4) : (levAts L lv : sProp 𝕄) ⊢ MayWait (c : Thread nD τ) (.dma (dsem a k)) () (owed []) := by
  rw [owed_nil, MayWait_zero]; exact BI.Affine.affine

omit [FloatOps F] in
/-- Every chunk counts the same. -/
theorem credit_chunk (v : Memref sig .tc .vmem S1x64x512 .f32) : v.view.dmaCredit = N := rfl

/-- Where the kernel's chunk `k` lies. -/
theorem off_eq (k : Fin 4) : k0_off2 c (BitVec.ofNat 32 (64 * k.val)) = chunkOff (half c) k := by
  rw [k0_off2_eq]; rfl

/-- What is owed to `py c` from chunk 3, 2, 1, 0 on. -/
abbrev y3 : List (GSem nD τ sig × ℕ) := [(xf 3 3 (py c), N)]
abbrev y2 : List (GSem nD τ sig × ℕ) := (xf 3 2 (py c), N) :: y3 c
abbrev y1 : List (GSem nD τ sig × ℕ) := (xf 3 1 (py c), N) :: y2 c
abbrev y0 : List (GSem nD τ sig × ℕ) := (xf 3 0 (py c), N) :: y1 c

theorem dueY_true : dueY true c = y0 c := by unfold dueY; rw [amt_true]
theorem dueX_true : dueX true c = (xf 1 0 (px c), N) :: (xf 1 1 (px c), N) :: (xf 1 2 (px c), N) :: (xf 1 3 (px c), N) :: y0 c := by
  unfold dueX; rw [dueY_true, amt_true]

theorem sub3 : y3 c ⊆ dueY true c := by rw [dueY_true]; exact fun _ h => List.mem_cons_of_mem _ (List.mem_cons_of_mem _ (List.mem_cons_of_mem _ h))
theorem sub2 : y2 c ⊆ dueY true c := by rw [dueY_true]; exact fun _ h => List.mem_cons_of_mem _ (List.mem_cons_of_mem _ h)
theorem sub1 : y1 c ⊆ dueY true c := by rw [dueY_true]; exact fun _ h => List.mem_cons_of_mem _ h
theorem sub0 : y0 c ⊆ dueY true c := by rw [dueY_true]; exact fun _ h => h

set_option maxHeartbeats 4000000 in
/-- The body, for either table, one operation after the other. -/
theorem sound_body (ht : TableOK m sw) (Kt : PUnit → sProp 𝕄) :
    iprop(bodyPre m ρ sw K c ∗ (bodyPost m ρ sw c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1 cc0_scratch2 cc0_scratch3) Kt := by
  simp only [cc0_body_eq_skeleton]; unfold cc0_body_skel
  simp only [semSignalWord, semWaitWord, smemLoad, smemLoadElt, Prog.lift, Prog.bind_op, Prog.bind_ret, Prog.pure_eq_ret, wp_deviceId]
  unfold bodyPre ghost
  iintro ⟨⟨⟨⟨#HR, Hat, Ht, Ht', Hats, Htoks⟩, Hc, HcX, HcY, #Hlev⟩, Ho, ⟨%d0, %g0, %hg0, Hp⟩, ⟨%d1, %g1, %hg1, Hx⟩, ⟨%d2, %g2, %hg2, Hout⟩⟩, Hk⟩
  have hp : g0 = pstg m c := by rw [hg0]; unfold Dat.before; rw [if_pos (fetch0_0 t0_0)]; rfl
  subst hp
  have hx : g1 = xstg m c := by rw [hg1]; unfold Dat.before; rw [if_pos (fetch0_1 t0_0)]; rfl
  subst hx
  unfold Dat.owesAt Pipeline.owesWithin
  icases Ho with ⟨%W, %hW, HO⟩
  rw [show (dats m ρ sw 0 c).owed t0_0.castSucc = owed (due sw c) from rfl]
  -- the table's word
  iapply (wp_load_rect 𝒱₀ (c : Thread nD τ) none Set.univ (m := pM) (r := pR c) (Finset.subset_univ _)) $$ Hp; iintro Hp
  have hw := (load_word c (pstg m c) (Shape.Idx.first (s := S1) (numel1_S1.symm ▸ Nat.one_pos))).trans (ht c)
  generalize (pM.access (pR c)).read (Elt F) (pstg m c) (Shape.Idx.first (s := S1) (numel1_S1.symm ▸ Nat.one_pos)) = w at hw ⊢
  subst hw
  simp only [wp_assume_of _ _ _ _ (d := k0_chk1.dec _ _) (chk_goal sw c)]
  -- the handshake
  iapply (handshake m sw K c _ _ (dev1_px c _) (dev2_py c _) _ _ _ (by decide) (by decide) (by decide) g2) $$ [HO Hat Ht Ht' Hc Hout]
  · isplitr; · iexact HR
    isplitr; · iexact Hlev
    isplitl [HO]; · unfold Owes; iexists W; iexact HO
    isplitl [Hat]; · iexact Hat
    isplitl [Ht]; · iexact Ht
    isplitl [Ht']; · iexact Ht'
    isplitl [Hc]; · iexact Hc
    iexact Hout
  iintro ⟨HO, Hat, HlX, HlY, Hkeep⟩
  rcases Bool.eq_false_or_eq_true sw with hs | hs <;> subst hs
  rotate_left
  · -- the blocks stay: the staged block is copied to the staged result
    rw [if_pos (same_stay c), dif_neg (cond_stay c)]
    ihave Hkeep := (keep_false c) $$ Hkeep
    icases Hkeep with ⟨%g, Hout⟩
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := full3) (Mk := Finset.univ) (Finset.subset_univ _)) $$ Hout; iintro Hout
    rw [write_result, read_block, pay_eq]
    iapply (wind_up m ρ false K c 0 (fun a k r' _ => duties_xf_none m c a k r') Kt)
    isplitr; · iexact HR
    isplitl [HO]; · unfold Owes; rw [owed_dueX_false]; iexact HO
    isplitl [Hat]; · iexact Hat
    isplitl [Hats]; · iexact Hats
    isplitl [Hp]; · iexact Hp
    isplitl [Hx]; · iexact Hx
    isplitl [Hout]; · iexact Hout
    iexact Hk
  · rw [if_neg (same_swap c), dif_pos (cond_swap c)]
    simp only [k0_part1_eq_skeleton, k0_part2_eq_skeleton, k0_part3_eq_skeleton, k0_part4_eq_skeleton, k0_part5_eq_skeleton, k0_part6_eq_skeleton, k0_part7_eq_skeleton]
    unfold k0_part1_skel k0_part2_skel k0_part3_skel k0_part4_skel k0_part5_skel k0_part6_skel k0_part7_skel
    simp only [Prog.lift, Prog.bind_op, Prog.bind_ret, Prog.pure_eq_ret, Prog.bind_assoc]
    iclear Hkeep
    ihave HlX := (lend_true (px c) (half c)) $$ HlX
    ihave HlY := (lend_true (py c) (half c)) $$ HlY
    icases HlX with ⟨%fX, HlX⟩
    icases HlY with ⟨%fY, HlY⟩
    ihave HO := (Entails.of_eq (congrArg (Owes (F := F) c) (dueX_true c))) $$ HO
    ihave Hd := (deal m c) $$ [Hats Htoks HcX HcY Hx]
    · isplitl [Hats]; · iexact Hats
      isplitl [Htoks]; · iexact Htoks
      isplitl [HcX]; · iexact HcX
      isplitl [HcY]; · iexact HcY
      iexact Hx
    icases Hd with ⟨SX, SY, R1, R3, X'⟩
    ihave SX := (Entails.of_eq (bigSep_four _)) $$ SX
    icases SX with ⟨SX0, SX1, SX2, SX3⟩
    ihave SY := (Entails.of_eq (bigSep_four _)) $$ SY
    icases SY with ⟨SY0, SY1, SY2, SY3⟩
    ihave R1 := (Entails.of_eq (bigSep_four _)) $$ R1
    icases R1 with ⟨R10, R11, R12, R13⟩
    ihave R3 := (Entails.of_eq (bigSep_four _)) $$ R3
    icases R3 with ⟨R30, R31, R32, R33⟩
    ihave HlX := (Entails.of_eq (bigSep_four _)) $$ HlX
    icases HlX with ⟨DX0, DX1, DX2, DX3⟩
    ihave HlY := (Entails.of_eq (bigSep_four _)) $$ HlY
    icases HlY with ⟨DY0, DY1, DY2, DY3⟩
    iapply (step_sendX m K c _ (Fin.ext (devX c).1) 0 rfl rfl (slice_chunk xM _ _ _ _ (off_eq c 0)) (slice_chunk oM _ _ _ _ (off_eq c 0)) fX _) $$ [HO SX0 DX0]
    · isplitr; · iexact HR
      isplitl [HO]; · iexact HO
      isplitl [SX0]; · iexact SX0
      iexact DX0
    iintro ⟨HO, W00⟩
    iapply (step_sendX m K c _ (Fin.ext (devX c).2.1) 1 rfl rfl (slice_chunk xM _ _ _ _ (off_eq c 1)) (slice_chunk oM _ _ _ _ (off_eq c 1)) fX _) $$ [HO SX1 DX1]
    · isplitr; · iexact HR
      isplitl [HO]; · iexact HO
      isplitl [SX1]; · iexact SX1
      iexact DX1
    iintro ⟨HO, W01⟩
    iapply (step_sendX m K c _ (Fin.ext (devX c).2.2.1) 2 rfl rfl (slice_chunk xM _ _ _ _ (off_eq c 2)) (slice_chunk oM _ _ _ _ (off_eq c 2)) fX _) $$ [HO SX2 DX2]
    · isplitr; · iexact HR
      isplitl [HO]; · iexact HO
      isplitl [SX2]; · iexact SX2
      iexact DX2
    iintro ⟨HO, W02⟩
    iapply (step_sendX m K c _ (Fin.ext (devX c).2.2.2) 3 rfl rfl (slice_chunk xM _ _ _ _ (off_eq c 3)) (slice_chunk oM _ _ _ _ (off_eq c 3)) fX _) $$ [HO SX3 DX3]
    · isplitr; · iexact HR
      isplitl [HO]; · iexact HO
      isplitl [SX3]; · iexact SX3
      iexact DX3
    iintro ⟨HO, W03⟩
    iapply (step_wait m K c 1 0 rfl (credit_chunk _) (y0 c) (mayWait_x true c 0 _ (sub0 c))) $$ [HO R10]
    · isplitr; · iexact HR
      isplitr; · iexact Hlev
      isplitl [HO]; · iexact HO
      iexact R10
    iintro ⟨HO, A10, P10⟩
    iapply (step_sendY m K c _ (Fin.ext (devY c).1) 0 rfl rfl (slice_chunk oM _ _ _ _ (off_eq c 0)) (slice_chunk oM _ _ _ _ (off_eq c 0)) fY (y1 c)) $$ [HO SY0 DY0 P10]
    · isplitr; · iexact HR
      isplitl [HO]; · iexact HO
      isplitl [SY0]; · iexact SY0
      isplitl [DY0]; · iexact DY0
      iexact P10
    iintro ⟨HO, W20⟩
    iapply (step_wait m K c 1 1 rfl (credit_chunk _) (y1 c) (mayWait_x true c 1 _ (sub1 c))) $$ [HO R11]
    · isplitr; · iexact HR
      isplitr; · iexact Hlev
      isplitl [HO]; · iexact HO
      iexact R11
    iintro ⟨HO, A11, P11⟩
    iapply (step_sendY m K c _ (Fin.ext (devY c).2.1) 1 rfl rfl (slice_chunk oM _ _ _ _ (off_eq c 1)) (slice_chunk oM _ _ _ _ (off_eq c 1)) fY (y2 c)) $$ [HO SY1 DY1 P11]
    · isplitr; · iexact HR
      isplitl [HO]; · iexact HO
      isplitl [SY1]; · iexact SY1
      isplitl [DY1]; · iexact DY1
      iexact P11
    iintro ⟨HO, W21⟩
    iapply (step_wait m K c 1 2 rfl (credit_chunk _) (y2 c) (mayWait_x true c 2 _ (sub2 c))) $$ [HO R12]
    · isplitr; · iexact HR
      isplitr; · iexact Hlev
      isplitl [HO]; · iexact HO
      iexact R12
    iintro ⟨HO, A12, P12⟩
    iapply (step_sendY m K c _ (Fin.ext (devY c).2.2.1) 2 rfl rfl (slice_chunk oM _ _ _ _ (off_eq c 2)) (slice_chunk oM _ _ _ _ (off_eq c 2)) fY (y3 c)) $$ [HO SY2 DY2 P12]
    · isplitr; · iexact HR
      isplitl [HO]; · iexact HO
      isplitl [SY2]; · iexact SY2
      isplitl [DY2]; · iexact DY2
      iexact P12
    iintro ⟨HO, W22⟩
    iapply (step_wait m K c 1 3 rfl (credit_chunk _) (y3 c) (mayWait_x true c 3 _ (sub3 c))) $$ [HO R13]
    · isplitr; · iexact HR
      isplitr; · iexact Hlev
      isplitl [HO]; · iexact HO
      iexact R13
    iintro ⟨HO, A13, P13⟩
    iapply (step_sendY m K c _ (Fin.ext (devY c).2.2.2) 3 rfl rfl (slice_chunk oM _ _ _ _ (off_eq c 3)) (slice_chunk oM _ _ _ _ (off_eq c 3)) fY []) $$ [HO SY3 DY3 P13]
    · isplitr; · iexact HR
      isplitl [HO]; · iexact HO
      isplitl [SY3]; · iexact SY3
      isplitl [DY3]; · iexact DY3
      iexact P13
    iintro ⟨HO, W23⟩
    iapply (step_wait m K c 0 0 rfl (credit_chunk _) [] (mayWait_nil c 0 0)) $$ [HO W00]
    · isplitr; · iexact HR
      isplitr; · iexact Hlev
      isplitl [HO]; · iexact HO
      iexact W00
    iintro ⟨HO, A00, P00⟩
    iapply (step_wait m K c 2 0 rfl (credit_chunk _) [] (mayWait_nil c 2 0)) $$ [HO W20]
    · isplitr; · iexact HR
      isplitr; · iexact Hlev
      isplitl [HO]; · iexact HO
      iexact W20
    iintro ⟨HO, A20, P20⟩
    iapply (step_wait m K c 3 0 rfl (credit_chunk _) [] (mayWait_nil c 3 0)) $$ [HO R30]
    · isplitr; · iexact HR
      isplitr; · iexact Hlev
      isplitl [HO]; · iexact HO
      iexact R30
    iintro ⟨HO, A30, P30⟩
    iapply (step_wait m K c 0 1 rfl (credit_chunk _) [] (mayWait_nil c 0 1)) $$ [HO W01]
    · isplitr; · iexact HR
      isplitr; · iexact Hlev
      isplitl [HO]; · iexact HO
      iexact W01
    iintro ⟨HO, A01, P01⟩
    iapply (step_wait m K c 2 1 rfl (credit_chunk _) [] (mayWait_nil c 2 1)) $$ [HO W21]
    · isplitr; · iexact HR
      isplitr; · iexact Hlev
      isplitl [HO]; · iexact HO
      iexact W21
    iintro ⟨HO, A21, P21⟩
    iapply (step_wait m K c 3 1 rfl (credit_chunk _) [] (mayWait_nil c 3 1)) $$ [HO R31]
    · isplitr; · iexact HR
      isplitr; · iexact Hlev
      isplitl [HO]; · iexact HO
      iexact R31
    iintro ⟨HO, A31, P31⟩
    iapply (step_wait m K c 0 2 rfl (credit_chunk _) [] (mayWait_nil c 0 2)) $$ [HO W02]
    · isplitr; · iexact HR
      isplitr; · iexact Hlev
      isplitl [HO]; · iexact HO
      iexact W02
    iintro ⟨HO, A02, P02⟩
    iapply (step_wait m K c 2 2 rfl (credit_chunk _) [] (mayWait_nil c 2 2)) $$ [HO W22]
    · isplitr; · iexact HR
      isplitr; · iexact Hlev
      isplitl [HO]; · iexact HO
      iexact W22
    iintro ⟨HO, A22, P22⟩
    iapply (step_wait m K c 3 2 rfl (credit_chunk _) [] (mayWait_nil c 3 2)) $$ [HO R32]
    · isplitr; · iexact HR
      isplitr; · iexact Hlev
      isplitl [HO]; · iexact HO
      iexact R32
    iintro ⟨HO, A32, P32⟩
    iapply (step_wait m K c 0 3 rfl (credit_chunk _) [] (mayWait_nil c 0 3)) $$ [HO W03]
    · isplitr; · iexact HR
      isplitr; · iexact Hlev
      isplitl [HO]; · iexact HO
      iexact W03
    iintro ⟨HO, A03, P03⟩
    iapply (step_wait m K c 2 3 rfl (credit_chunk _) [] (mayWait_nil c 2 3)) $$ [HO W23]
    · isplitr; · iexact HR
      isplitr; · iexact Hlev
      isplitl [HO]; · iexact HO
      iexact W23
    iintro ⟨HO, A23, P23⟩
    iapply (step_wait m K c 3 3 rfl (credit_chunk _) [] (mayWait_nil c 3 3)) $$ [HO R33]
    · isplitr; · iexact HR
      isplitr; · iexact Hlev
      isplitl [HO]; · iexact HO
      iexact R33
    iintro ⟨HO, A33, P33⟩
    ihave Hend := (gather m c) $$ [A00 A01 A02 A03 P00 P01 P02 P03 A10 A11 A12 A13 A20 A21 A22 A23 P20 P21 P22 P23 A30 A31 A32 A33 P30 P31 P32 P33 X']
    · isplitl [A00 P00 A01 P01 A02 P02 A03 P03]
      · iapply (Entails.of_eq (bigSep_four _).symm)
        isplitl [A00 P00]
        · iapply (Past.mk m c 0 0); isplitl [A00]; · iexact A00
          iexact P00
        isplitl [A01 P01]
        · iapply (Past.mk m c 0 1); isplitl [A01]; · iexact A01
          iexact P01
        isplitl [A02 P02]
        · iapply (Past.mk m c 0 2); isplitl [A02]; · iexact A02
          iexact P02
        iapply (Past.mk m c 0 3); isplitl [A03]; · iexact A03
        iexact P03
      isplitl [A10 A11 A12 A13]
      · iapply (Entails.of_eq (bigSep_four _).symm)
        isplitl [A10]
        · iexact A10
        isplitl [A11]
        · iexact A11
        isplitl [A12]
        · iexact A12
        iexact A13
      isplitl [A20 P20 A21 P21 A22 P22 A23 P23]
      · iapply (Entails.of_eq (bigSep_four _).symm)
        isplitl [A20 P20]
        · iapply (Past.mk m c 2 0); isplitl [A20]; · iexact A20
          iexact P20
        isplitl [A21 P21]
        · iapply (Past.mk m c 2 1); isplitl [A21]; · iexact A21
          iexact P21
        isplitl [A22 P22]
        · iapply (Past.mk m c 2 2); isplitl [A22]; · iexact A22
          iexact P22
        iapply (Past.mk m c 2 3); isplitl [A23]; · iexact A23
        iexact P23
      isplitl [A30 P30 A31 P31 A32 P32 A33 P33]
      · iapply (Entails.of_eq (bigSep_four _).symm)
        isplitl [A30 P30]
        · iapply (Past.mk m c 3 0); isplitl [A30]; · iexact A30
          iexact P30
        isplitl [A31 P31]
        · iapply (Past.mk m c 3 1); isplitl [A31]; · iexact A31
          iexact P31
        isplitl [A32 P32]
        · iapply (Past.mk m c 3 2); isplitl [A32]; · iexact A32
          iexact P32
        iapply (Past.mk m c 3 3); isplitl [A33]; · iexact A33
        iexact P33
      iexact X'
    icases Hend with ⟨Hats, Hx, Hout⟩
    iapply (wind_up m ρ true K c 1 (fun a k r' h => duties_later m true (xf a k c) r' h) Kt)
    isplitr; · iexact HR
    isplitl [HO]; · iexact HO
    isplitl [Hat]; · iexact Hat
    isplitl [Hats]; · iexact Hats
    isplitl [Hp]; · iexact Hp
    isplitl [Hx]; · iexact Hx
    isplitl [Hout]; · iexact Hout
    iexact Hk

set_option maxRecDepth 4000 in
/-- The one grid point's obligation, as the launch asks for it. -/
theorem body_obligation (ht : TableOK m sw) : BodyObligation (dats (F := F) m ρ sw 0 c) (defs₀ (F := F)) 𝒱₀ () Set.univ := fun t => by
  rw [fin_N0 t]
  rw [bigSep_W0, bigSep_W0]
  simp only [owns_whole]
  show iprop(start m sw c ∗ (dats m ρ sw 0 c).owesAt () t0_0.castSucc
      ∗ (∃ d, stg c cc0_stg0_0 ((dats m ρ sw 0 c).before (0 : Fin 3) t0_0 d))
      ∗ (∃ d, stg c cc0_stg1_0 ((dats m ρ sw 0 c).before (1 : Fin 3) t0_0 d))
      ∗ (∃ d, stg c cc0_stg2_0 ((dats m ρ sw 0 c).before (2 : Fin 3) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) cc0_scratch0 cc0_scratch1 cc0_scratch2 cc0_scratch3) (fun _ => bodyPost m ρ sw c)
  unfold start
  iintro ⟨⟨⟨%K, Hg⟩, Hrest⟩, Ho, Hp, Hx, Hout⟩
  iapply (sound_body m ρ sw K c ht fun _ => bodyPost m ρ sw c)
  unfold bodyPre
  isplitr []
  · isplitl [Hg Hrest]
    · isplitl [Hg]; · iexact Hg
      iexact Hrest
    isplitl [Ho]; · iexact Ho
    isplitl [Hp]; · iexact Hp
    isplitl [Hx]; · iexact Hx
    iexact Hout
  · iintro H; iexact H

end Body

end Cert.BlockSwap
-- ==== Proof.Launch.lean ====
/-
The launch of the kernel on the four devices: the ghost state is minted and dealt out, the units owed at launch are added
up, and the runs of the four bodies give the run of the program.
-/
module

public import proofs.«01_k».proof.Proof.Body
public import Idealize.ShloMosaic.Lib.Pipeline.CollectiveSegs

@[expose] public section

noncomputable section

namespace Cert.BlockSwap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## The semaphores of the kernel -/

omit [FloatOps F] in
theorem bigSep_J (Φ : J → sProp 𝕄) : bigSep Finset.univ Φ = iprop(Φ (.inl ()) ∗ bigSep Finset.univ fun p => Φ (.inr p)) := by
  refine (BI.bigSep_univ_sum Φ).trans ?_
  rw [bigSep_univ_eq_bigSepL [()] (by decide) (by decide) (fun a => Φ (.inl a))]; rfl

/-- The sixteen semaphores of the copies, in the order they are declared. -/
abbrev osem : Fin 16 → SemLoc sig := fun i => .dma (dsem ⟨i.val / 4, by omega⟩ ⟨i.val % 4, by omega⟩)

theorem ownSemFacts : Pipeline.OwnSemFacts cfg0.spec osem := by decide

theorem osem_pair (p : Fin 4 × Fin 4) : osem (finProdFinEquiv p) = .dma (dsem p.1 p.2) := by revert p; decide

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun p : Fin 4 × Fin 4 => semVal (xf p.1 p.2 c) 0 := by
  refine (show _ = bigSep Finset.univ fun i : Fin 16 => (semVal ((c : Thread nD τ), osem i) 0 : sProp 𝕄) from rfl).trans ?_
  rw [bigSep_univ_equiv (finProdFinEquiv : Fin 4 × Fin 4 ≃ Fin 16)]
  exact bigSep_congr fun p _ => by rw [osem_pair]
omit [FloatOps F] in
theorem unscopedSems0_eq (c : Dev nD) : (unscopedSems0 c : sProp 𝕄) = semVal (bar c) 0 := by
  unfold unscopedSems0; rw [bigSep_eq_bigSepL_of_eq [SemLoc.reg barS] (by decide) (by decide)]; rfl

omit [FloatOps F] in
/-- Together, the semaphores the protocol speaks of. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun j : J => semVal (kcell (c, j)) 0 : sProp 𝕄) := by
  rw [ownSems0_eq, unscopedSems0_eq, bigSep_J]
  iintro ⟨H, HB⟩
  isplitl [HB]; · iexact HB
  iexact H

theorem share_eq (c : Dev nD) (w : Fin cfg0.W) : (dats m ρ sw 0 c).share w = fullShare := by unfold Dat.share; split <;> rfl

/-! ## What is minted, and how it is dealt out -/

theorem kcell_inj : Function.Injective (kcell : Dev nD × J → GSem nD τ sig) := by
  rintro ⟨c, j⟩ ⟨c', j'⟩ h
  have h1 : c = c' := congrArg (fun g : GSem nD τ sig => g.1.1) h
  have h2 : j = j' := csem_inj (congrArg Prod.snd h)
  rw [h1, h2]
theorem tokOf_inj : Function.Injective (fun x : Dev nD × J × Bool => ((kcell (x.1, x.2.1), 0, x.2.2) : GSem nD τ sig × ℕ × Bool)) := by
  rintro ⟨c, j, b⟩ ⟨c', j', b'⟩ h
  have h1 : (c, j) = (c', j') := kcell_inj (congrArg Prod.fst h)
  have h2 : b = b' := congrArg (fun x : GSem nD τ sig × ℕ × Bool => x.2.2) h
  cases h1; rw [h2]
def allCells : Finset (GSem nD τ sig) := Finset.univ.map ⟨kcell, kcell_inj⟩
def allToks : Finset (GSem nD τ sig × ℕ × Bool) := Finset.univ.map ⟨_, tokOf_inj⟩

def u₀ : UU := (initOf (Pipeline.cells cfgs cellOf_inj) (Pipeline.launchToks cfgs cellOf_inj), initOf allCells allToks)

/-- The tokens of the semaphores of device `c`. -/
def ownToks (c : Dev nD) : sProp 𝕄 := bigSep Finset.univ fun x : J × Bool => dutyTok ER (kcell (c, x.1)) 0 x.2
/-- The tokens of what device `c` pays. -/
def payToks (c : Dev nD) : sProp 𝕄 :=
  iprop(dutyTok ER (bar (px c)) 0 false ∗ dutyTok ER (bar (py c)) 0 true
    ∗ bigSep Finset.univ fun p : Fin 4 × Fin 4 => dutyTok ER (xf p.1 p.2 (peer p.1 c)) 0 false)

/-- What is minted for device `c`. -/
def minted (c : Dev nD) : sProp 𝕄 :=
  iprop((bigSep Finset.univ fun j : J => roundState ER (sched m sw) (kcell (c, j)) 0)
    ∗ (bigSep Finset.univ fun j : J => iprop(atPos ER (kcell (c, j)) 0 ∅ 0 ∗ reached ER (kcell (c, j)) 0)) ∗ ownToks c)

omit [FloatOps F] in
theorem mint : BI.own (ER (initOf allCells allToks)) ⊢ (|==> bigSep Finset.univ (minted m sw) : sProp 𝕄) := by
  have hX (Φ : GSem nD τ sig → sProp 𝕄) : bigSep allCells Φ = bigSep Finset.univ fun c : Dev nD => bigSep Finset.univ fun j : J => Φ (kcell (c, j)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (sched m sw) allCells allToks) $$ HX with ⟨Hst, Hr, Hat, Htok⟩
  imodintro
  ihave Hst' := (Entails.of_eq (hX fun g => roundState ER (sched m sw) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

omit [FloatOps F] in
/-- Every semaphore of a device gets its invariant. -/
theorem core_alloc (c : Dev nD) :
    iprop(Pipeline.ownSems0 (Ix := Unit) (Name := ℕ) (U := UU) (Lvl := ℕ) (Val := Elt F) (τ := τ) osem c ∗ unscopedSems0 c ∗ minted m sw c)
      ⊢ |={Set.univ}=> iprop((bigSep Finset.univ fun j : J => iprop(∃ κ : ℕ, cellInv ER (sched m sw) κ (kcell (c, j))))
          ∗ (bigSep Finset.univ fun j : J => iprop(atPos ER (kcell (c, j)) 0 ∅ 0 ∗ reached ER (kcell (c, j)) 0)) ∗ ownToks c) := by
  unfold minted
  iintro ⟨Hos, Hus, Hst, Hat, Htok⟩
  ihave Hv := (sems0 (F := F) c) $$ [Hos Hus]
  · isplitl [Hos] <;> iassumption
  imod (show iprop((bigSep Finset.univ fun j : J => semVal (kcell (c, j)) 0) ∗ bigSep Finset.univ fun j : J => roundState ER (sched m sw) (kcell (c, j)) 0)
      ⊢ (|={Set.univ}=> bigSep Finset.univ fun j : J => iprop(∃ κ : ℕ, cellInv ER (sched m sw) κ (kcell (c, j))) : sProp 𝕄) from by
        rw [← bigSep_sep']
        exact (bigSep_mono fun j _ => (Rounds.body_intro ER (sched m sw) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Who pays into semaphore `a`, `k` of whom. -/
def peerE : Dev nD × (Fin 4 × Fin 4) ≃ Dev nD × (Fin 4 × Fin 4) :=
  have h : ∀ x : Dev nD × (Fin 4 × Fin 4), (peer x.2.1 (peer x.2.1 x.1), x.2) = x := by decide
  ⟨fun x => (peer x.2.1 x.1, x.2), fun x => (peer x.2.1 x.1, x.2), h, h⟩

omit [FloatOps F] in
/-- Of a device's tokens, those of actual duties. -/
theorem ownToks_some (c : Dev nD) :
    ownToks c ⊢ (iprop(dutyTok ER (bar c) 0 false ∗ dutyTok ER (bar c) 0 true ∗ bigSep Finset.univ fun p : Fin 4 × Fin 4 => dutyTok ER (xf p.1 p.2 c) 0 false) : sProp 𝕄) := by
  have hB (j : J) : (bigSep Finset.univ fun b : Bool => (dutyTok ER (kcell (c, j)) 0 b : sProp 𝕄)) = iprop(dutyTok ER (kcell (c, j)) 0 false ∗ dutyTok ER (kcell (c, j)) 0 true) :=
    bigSep_univ_eq_bigSepL [false, true] (by decide) (by decide) _
  unfold ownToks
  rw [bigSep_univ_prod (fun x : J × Bool => (dutyTok ER (kcell (c, x.1)) 0 x.2 : sProp 𝕄)), bigSep_congr (s := Finset.univ) fun (j : J) _ => hB j,
    bigSep_J, bigSep_sep']
  iintro ⟨⟨Hf, Ht⟩, Hx, -⟩
  isplitl [Hf]; · iexact Hf
  isplitl [Ht]; · iexact Ht
  iexact Hx

omit [FloatOps F] in
/-- Every token goes to the device that pays the duty. -/
theorem toks_around : (bigSep Finset.univ fun c : Dev nD => (ownToks c : sProp 𝕄)) ⊢ bigSep Finset.univ fun c : Dev nD => payToks c := by
  refine (bigSep_mono fun c _ => ownToks_some c).trans ?_
  unfold payToks
  rw [bigSep_sep', bigSep_sep', bigSep_sep', bigSep_sep',
    bigSep_univ_equiv pxE (fun c : Dev nD => (dutyTok ER (bar c) 0 false : sProp 𝕄)),
    bigSep_univ_equiv pyE (fun c : Dev nD => (dutyTok ER (bar c) 0 true : sProp 𝕄)),
    ← bigSep_univ_prod (fun x : Dev nD × (Fin 4 × Fin 4) => (dutyTok ER (xf x.2.1 x.2.2 x.1) 0 false : sProp 𝕄)),
    bigSep_univ_equiv peerE,
    ← bigSep_univ_prod (fun x : Dev nD × (Fin 4 × Fin 4) => (dutyTok ER (xf x.2.1 x.2.2 (peer x.2.1 x.1)) 0 false : sProp 𝕄))]
  exact BI.Entails.refl _

/-- What the launch makes of it all. -/
def ready (c : Dev nD) : sProp 𝕄 := iprop(∃ K, ghost m sw K c)

omit [FloatOps F] in
theorem ready_intro (K : Dev nD × J → ℕ) (c : Dev nD) :
    iprop(records m sw K ∗ ((bigSep Finset.univ fun j : J => atPos ER (kcell (c, j)) 0 ∅ 0) ∗ payToks c)) ⊢ ready m sw c := by
  unfold payToks ready ghost
  rw [bigSep_J]
  iintro ⟨#HR, ⟨Hb, Hx⟩, H1, H2, H3⟩
  iexists K
  isplitr; · iexact HR
  isplitl [Hb]; · iexact Hb
  isplitl [H1]; · iexact H1
  isplitl [H2]; · iexact H2
  isplitl [Hx]; · iexact Hx
  iexact H3

omit [FloatOps F] in
theorem regroup :
    (bigSep Finset.univ fun c : Dev nD => iprop((bigSep Finset.univ fun j : J => iprop(∃ κ : ℕ, cellInv ER (sched m sw) κ (kcell (c, j))))
          ∗ (bigSep Finset.univ fun j : J => iprop(atPos ER (kcell (c, j)) 0 ∅ 0 ∗ reached ER (kcell (c, j)) 0)) ∗ ownToks c) : sProp 𝕄)
      ⊢ bigSep Finset.univ (ready m sw) := by
  rw [bigSep_sep', bigSep_sep', ← bigSep_univ_prod (fun p : Dev nD × J => iprop(∃ κ : ℕ, cellInv ER (sched m sw) κ (kcell p))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun p : Dev nD × J => (reached ER (kcell p) 0 : sProp 𝕄))]
  iintro ⟨HI, ⟨Hat, #HR⟩, Htok⟩
  ihave HK := (BI.bigSep_exists_pi Finset.univ (fun (p : Dev nD × J) (κ : ℕ) => (cellInv ER (sched m sw) κ (kcell p) : sProp 𝕄))) $$ HI
  icases HK with ⟨%K, #HI⟩
  ihave Htk := (toks_around (F := F)) $$ Htok
  iapply (bigSep_trade Finset.univ (records m sw K) _ _ fun c => ready_intro m sw K c)
  isplitr
  · unfold records; isplitl; · iexact HI
    iexact HR
  · rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ minted m sw c) : sProp 𝕄)
    ⊢ |={Set.univ}=> bigSep Finset.univ (ready m sw) :=
  ((bigSep_mono fun c _ => core_alloc m sw c).trans (bigSep_fupd _ _)).trans (BI.fupd_mono (regroup m sw))

/-! ## The units owed at launch, added up -/

/-- What a device owes, by neighbour and semaphore. -/
def dues : List ((Dev nD ≃ Dev nD) × J × ℕ) :=
  [(pxE, .inl (), 1), (pyE, .inl (), 1), (pxE, .inr (1, 0), amt sw), (pxE, .inr (1, 1), amt sw), (pxE, .inr (1, 2), amt sw), (pxE, .inr (1, 3), amt sw),
    (pyE, .inr (3, 0), amt sw), (pyE, .inr (3, 1), amt sw), (pyE, .inr (3, 2), amt sw), (pyE, .inr (3, 3), amt sw)]
omit [FloatOps F] in
theorem due_eq (d : Dev nD) : due sw d = (dues sw).map fun x => (kcell (x.1 d, x.2.1), x.2.2) := rfl

/-- What arrives at semaphore `j` of each device. -/
def arrives (j : J) : ℕ := ((dues sw).map fun x => if x.2.1 = j then x.2.2 else 0).sum

omit [FloatOps F] in
/-- Of a list of dues, what all devices together owe semaphore `j` of device `c`. -/
theorem owed_sum (l : List ((Dev nD ≃ Dev nD) × J × ℕ)) (c : Dev nD) (j : J) :
    ∑ d : Dev nD, owed (l.map fun x => (kcell (x.1 d, x.2.1), x.2.2)) (kcell (c, j)) () = (l.map fun x => if x.2.1 = j then x.2.2 else 0).sum := by
  induction l with
  | nil => exact Finset.sum_eq_zero fun d _ => rfl
  | cons x l ih =>
    have hx : ∀ d : Dev nD, owed ((x :: l).map fun x => (kcell (x.1 d, x.2.1), x.2.2)) (kcell (c, j)) ()
        = owed (l.map fun x => (kcell (x.1 d, x.2.1), x.2.2)) (kcell (c, j)) () + if d = x.1.symm c then (if x.2.1 = j then x.2.2 else 0) else 0 := fun d => by
      rw [List.map_cons, owed_cons, Pi.add_apply, Finsupp.add_apply, tallyAt_apply]
      congr 1
      by_cases h : d = x.1.symm c
      · rw [if_pos h]
        by_cases hj : x.2.1 = j
        · rw [if_pos hj, if_pos ⟨by rw [h, Equiv.apply_symm_apply, hj], rfl⟩]
        · rw [if_neg hj, if_neg fun h' => hj (congrArg Prod.snd (kcell_inj h'.1)).symm]
      · rw [if_neg h, if_neg fun h' => h (by rw [Equiv.eq_symm_apply]; exact (congrArg Prod.fst (kcell_inj h'.1)).symm)]
    rw [Finset.sum_congr rfl fun d _ => hx d, Finset.sum_add_distrib, ih, Finset.sum_ite_eq' Finset.univ (x.1.symm c), if_pos (Finset.mem_univ _),
      List.map_cons, List.sum_cons, add_comm]

omit [FloatOps F] in
theorem launch_at (c : Dev nD) (j : J) :
    tallyOn (kcell (c, j)) (launchCredit (Pipeline.owing fun d => owed (due sw d)) 0 (kcell (c, j))) = (tallyAt (kcell (c, j)) () (arrives sw j) : CellTallies nD τ sig Unit) := by
  unfold tallyAt; refine congrArg _ (Finsupp.ext fun u => ?_); cases u
  rw [Pipeline.launchCredit_owing, Finsupp.single_eq_same]
  exact owed_sum (dues sw) c j

theorem arrives_bar : arrives sw (.inl ()) = 2 := rfl
theorem arrives_x (k : Fin 4) : arrives sw (.inr (1, k)) = amt sw := by
  unfold arrives dues; fin_cases k <;> simp
theorem arrives_y (k : Fin 4) : arrives sw (.inr (3, k)) = amt sw := by
  unfold arrives dues; fin_cases k <;> simp

omit [FloatOps F] in
theorem arrives_some (c : Dev nD) :
    (bigSep Finset.univ fun j : J => (cred (tallyAt (kcell (c, j)) () (arrives sw j)) : sProp 𝕄)) ⊢ iprop(cred (tallyAt (bar c) () 2)
      ∗ (bigSep Finset.univ fun k : Fin 4 => cred (tallyAt (xf 1 k c) () (amt sw))) ∗ (bigSep Finset.univ fun k : Fin 4 => cred (tallyAt (xf 3 k c) () (amt sw)))) := by
  rw [bigSep_J, bigSep_sixteen]
  simp only [arrives_x, arrives_y]
  iintro ⟨HB, -, H1, -, H3⟩
  isplitl [HB]; · iexact HB
  isplitl [H1]; · iexact H1
  iexact H3

omit [FloatOps F] in
theorem creds (c : Dev nD) :
    (Pipeline.launchCred (fun d => owed (due sw d)) c : sProp 𝕄) ⊢ iprop(cred (tallyAt (bar c) () 2)
      ∗ (bigSep Finset.univ fun k : Fin 4 => cred (tallyAt (xf 1 k c) () (amt sw))) ∗ (bigSep Finset.univ fun k : Fin 4 => cred (tallyAt (xf 3 k c) () (amt sw)))) := by
  unfold Pipeline.launchCred
  refine (BI.bigSep_subset (Finset.subset_univ (Finset.univ.map ⟨csem, csem_inj⟩))).trans ?_
  rw [bigSep_map]
  exact (bigSep_mono fun j _ => Entails.of_eq (congrArg cred (launch_at sw c j))).trans (arrives_some sw c)

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred (fun d => owed (due sw d)) c ∗ prngReg c (ρ c) ∗ ready m sw c)
      ⊢ |={Set.univ}=> iprop(start m sw c ∗ emp) := by
  iintro ⟨-, Hlev, Hcr, -, HG⟩
  ihave Hc := (creds (F := F) sw c) $$ Hcr
  icases Hc with ⟨H1, H2, H3⟩
  imodintro
  unfold start ready
  isplitl
  · isplitl [HG]; · iexact HG
    isplitl [H1]; · iexact H1
    isplitl [H2]; · iexact H2
    isplitl [H3]; · iexact H3
    iexact Hlev
  · iempintro

theorem phase_in (c : Dev nD) :
    iprop(start m sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = start m sw c from rfl]
  iintro ⟨Hs, -, -⟩
  iexact Hs

theorem phase_out (c : Dev nD) :
    (dats m ρ sw 0 c).Φ (Fin.last cfg0.N) ⊢ iprop(unscopedSems0 c ∗ Pipeline.ownSems0 osem c ∗ Pipeline.scopedRest cfg0.spec c) := by
  rw [show (dats m ρ sw 0 c).Φ (Fin.last cfg0.N) = finish c from rfl, scopedRest0_eq, ownSems0_eq, unscopedSems0_eq]
  unfold finish
  iintro ⟨Hz, HzB⟩
  isplitl [HzB]; · iexact HzB
  isplitl [Hz]; · iexact Hz
  iempintro

theorem waits (c : Dev nD) : (levAts L lv : sProp 𝕄) ⊢ Pipeline.cellsWaits cfgs (dats m ρ sw) () 0 c :=
  Pipeline.cellsWaits_intro cfgs (dats m ρ sw) () 0 c fun w s t => by
    rcases t with ⟨_ | _, ht⟩
    · exact mayWait_low sw c _ (by fin_cases w <;> fin_cases s <;> rfl)
    · show (levAts L lv : sProp 𝕄) ⊢ MayWait _ _ () 0
      rw [MayWait_zero]; exact BI.Affine.affine

/-- Each device's three arrays at the end. -/
def finalA (c : Dev nD) (w : Fin cfg0.W) : Buf (Elt F) ((cfg0.win w).arr.view.loc (c : Thread nD τ)) := (dats m ρ sw 0 c).arrAt w cfg0.N

set_option maxRecDepth 8000 in
/-- For any float values, from any memory whose tables all say `sw` and with all counters zero: every fair execution of
    the program on the four devices ends, with the arrays at `finalA` and all counters zero again. -/
theorem run_arrays (ht : TableOK m sw) : θ_run defs (onTc (τ := τ) (main (F := F))) (s₀ m ρ)
    (fun r => (∀ c : Dev nD, ∀ w : Fin cfg0.W, r.2.mem ((cfg0.win w).arr.view.loc (c : Thread nD τ)) = finalA m ρ sw c w) ∧ r.2.sem = fun _ => 0) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := fun c => body_obligation m ρ sw c ht) (hne := fun w => block_pos0 w) (harr := arr_whole0) (hstage := stage_whole0) (hshare := share_eq m ρ sw)
    (hdistinct := winFacts0.arr_inj)
    (O₀ := fun d => owed (due sw d)) (howed₀ := fun _ => rfl) (howedN := fun _ => rfl)
    (L := L) (lv := lv) (hL := L_of_ne) (hwaits := waits m ρ sw)
    (G := minted m sw) (G' := ready m sw) (u₀ := u₀)
    (hu₀ := by
      unfold u₀
      iintro Hu
      ihave H := (ownU_pair _ _) $$ Hu
      icases H with ⟨HP, HX⟩
      imod (mint m sw) $$ HX with HG
      imodintro
      isplitl [HP] <;> iassumption)
    (hglob := glob m sw)
    (hA := fun _ _ => rfl) (hpf := fun _ k => k.elim0)
    (X := start m sw) (Y := fun c => unscopedSems0 c) (Z := fun _ => iprop(emp))
    (hX := start_intro m ρ sw) (hin := phase_in m ρ sw) (hout := phase_out m ρ sw)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.BlockSwap
-- ==== Proof.Result.lean ====
/-
What the run leaves in each device's argument and result buffers, and when the tables are those that the run needs.
-/
module

public import proofs.«01_k».proof.Proof.Launch
public import Idealize.ShloMosaic.Lib.Pipeline.ValueKit.Geometry

@[expose] public section

noncomputable section

namespace Cert.BlockSwap

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (sw : Bool)

/-! ## The staged inputs are the arguments -/

omit [FloatOps F] in
/-- The staged table is the whole table argument. -/
theorem pstg_eq (c : Dev nD) : pstg m c = m ((c : Thread nD τ).loc main_arg1) := by
  show (win0_0.blk t0_0).view.read (Elt F) (m ((c : Thread nD τ).loc main_arg1)) = _
  exact Memref.read_access_unit_zero (Elt F) main_arg1
    (funext fun a => show (win0_0.index t0_0) a * main_arg1.ty.shape.size a = 0 by fin_cases a <;> decide)
    (fun a => by fin_cases a <;> decide) _

omit [FloatOps F] in
/-- The staged block is the whole block argument. -/
theorem xstg_eq (c : Dev nD) : xstg m c = m ((c : Thread nD τ).loc main_arg0) := by
  show (win0_1.blk t0_0).view.read (Elt F) (m ((c : Thread nD τ).loc main_arg0)) = _
  exact Memref.read_access_unit_zero (Elt F) main_arg0
    (funext fun a => show (win0_1.index t0_0) a * main_arg0.ty.shape.size a = 0 by fin_cases a <;> decide)
    (fun a => by fin_cases a <;> decide) _

/-! ## The arrays at the end -/

/-- The result array ends at the device's result. -/
theorem final_out (c : Dev nD) : (dats m ρ sw 0 c).arrAt 2 cfg0.N = outAt m sw c := by
  refine (dats m ρ sw 0 c).arrAt_eq_of_after_last 2 t0_0 (by decide +kernel) _ fun j => ?_
  show outAt m sw c j = outAt m sw c _
  congr 1

/-- From any memory with zero counters in which every device's table is that of `sw`, every weakly fair run ends; then
    each device's result is `outAt m sw`, its arguments are unchanged, and every counter is zero. -/
theorem run_main (ht : TableOK m sw) : θ_run defs (onTc (τ := τ) (main (F := F))) ⟨m, fun _ => 0, ρ⟩ (fun r =>
    (∀ c : Dev nD, r.2.mem ((c.tc : Thread nD τ).loc main_v1) = outAt m sw c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run defs _ _).mono (fun r h => ⟨fun c => ⟨?_, ?_, ?_⟩, h.2⟩) (run_arrays m ρ sw ht)
  · exact (h.1 c 2).trans (final_out m ρ sw c)
  · exact (h.1 c 1).trans (by unfold finalA; rw [Pipeline.Dat.arrAt_in (dats m ρ sw 0 c) 1 rfl]; rfl)
  · exact (h.1 c 0).trans (by unfold finalA; rw [Pipeline.Dat.arrAt_in (dats m ρ sw 0 c) 0 rfl]; rfl)

/-! ## The tables -/

/-- The two entries of a table. -/
def entry (k : Fin 2) : S2.Idx := fun _ => ⟨k.val, by rename_i a; fin_cases a; exact k.isLt⟩

/-- A table is that of `sw`: (1, 0) if the blocks are exchanged, else (0, 1). -/
def IsTable (tbl : S2.Idx → BitVec 32) : Prop :=
  tbl (entry 0) = (if sw then 1#32 else 0#32) ∧ tbl (entry 1) = (if sw then 0#32 else 1#32)

/-- Two one-bit words whose conjunction is one are both one. -/
theorem both_of_andi {a b : BitVec 1} (h : a &&& b = 1#1) : a = 1#1 ∧ b = 1#1 := by revert a b; decide

/-- A comparison for equality that gives one compares equal words. -/
theorem eq_of_cmpi {a b : BitVec 32} (h : IntOp.cmpi .eq a b = 1#1) : a = b := by
  by_contra hne
  have : (a == b) = false := by simpa using hne
  rw [show IntOp.cmpi .eq a b = BitVec.ofBool (a == b) from rfl, this] at h
  exact absurd h (by decide)

/-- What the device looks up in a table of `sw`. -/
theorem lookup {tbl : S2.Idx → BitVec 32} (h : IsTable sw tbl) (c : Dev nD) : tbl (tblIdx c) = goalW sw c := by
  have h0 : ∀ c : Dev nD, c.val / 2 = 0 → tblIdx c = entry 0 := fun c hc => funext fun a => Fin.ext hc
  have h1 : ∀ c : Dev nD, c.val / 2 = 1 → tblIdx c = entry 1 := fun c hc => funext fun a => Fin.ext hc
  have hc : c.val < 4 := c.isLt
  unfold goalW
  rcases (by omega : c.val / 2 = 0 ∨ c.val / 2 = 1) with hd | hd
  · rw [h0 c hd, h.1, hd]
  · rw [h1 c hd, h.2, hd]

/-- Tables of `sw` on every device are what the run needs. -/
theorem tableOK_of (h : ∀ c : Dev nD, IsTable sw (m ((c : Thread nD τ).loc main_arg1))) : TableOK m sw := fun c => by
  rw [pstg_eq]; exact lookup sw (h c) c

end Cert.BlockSwap

end
-- ==== Proof.Value.lean ====
/-
The reference's result at an index, and each device's part of it.
-/
module

public import proofs.«01_k».proof.Proof.Result
public import proofs.«01_k».proof.Proof.Gen.ReferenceIdeal
public import Idealize.ShloMosaic.Lib.ValueIdxCore
public import Idealize.ShloMosaic.Lib.Layout

@[expose] public section

noncomputable section

namespace Cert.BlockSwap

open Cert.ReferenceIdeal
open Idealize.ShloMosaic Idealize.ShloMosaic.TcCoe Idealize.ShloMosaic.ValueIdx
open Idealize.SL.Sem

variable {α : Type} (sw : Bool)

/-- The shape of the whole array. -/
abbrev SX : Shape := Cert.ReferenceIdeal.S2x512x512

/-- The sorting positions of a table. -/
def posOf (tbl : IVec S2 32) : IVec S2 32 := (Host.sort2 S2 0 comparator_i32_i32_d0 tbl (iotaInDim S2 32 0)).2

/-- The start indices that the reference takes from a table: the sorting positions, the negative ones counted from the end. -/
def startsOf (tbl : IVec S2 32) : IVec S2x1 32 :=
  broadcastInDim S2x1 ![0] Gen.bcast_S2_S2x1_0 (select (cmpi .slt (posOf tbl) (broadcastInDim S2 ![] Gen.bcast_S_S2 (constantI S_ 32 0#32)))
    (addi (posOf tbl) (broadcastInDim S2 ![] Gen.bcast_S_S2 (constantI S_ 32 2#32))) (posOf tbl))

/-- The two tables. -/
def tableOf : IVec S2 32 := fun i => if (i 0).val = 0 then (if sw then 1#32 else 0#32) else (if sw then 0#32 else 1#32)

/-- A table of `sw` is the one. -/
theorem eq_tableOf {tbl : IVec S2 32} (h : IsTable sw tbl) : tbl = tableOf sw := by
  funext i
  have hi : (i 0).val < 2 := (i 0).isLt
  have he : ∀ k : Fin 2, (i 0).val = k.val → i = entry k := fun k hk => funext fun a => by
    obtain rfl : a = 0 := Subsingleton.elim _ _
    exact Fin.ext hk
  unfold tableOf
  rcases (by omega : (i 0).val = 0 ∨ (i 0).val = 1) with h0 | h0
  · rw [if_pos h0, he 0 h0]; exact h.1
  · rw [if_neg (by omega), he 1 h0]; exact h.2

/-- The row of the operand that row `k` of the result takes. -/
def rowOf (k : Fin 2) : Fin 2 := if sw then 1 - k else k

/-- The start index of row `k`. -/
theorem startsOf_row : ∀ k : Fin 2, (startsOf (tableOf sw) (ix2 k (0 : Fin 1))).toInt.toNat = (rowOf sw k).val := by
  cases sw <;> decide +kernel

/-- The reference's gather at an index: the row named by the start index of its row. -/
theorem gather_rows (x : SX.Idx → α) (idx : IVec S2x1 32) (y : SX.Idx) :
    Host.gather gather_S2x512x512_S2x1_S2x512x512_12_0_n_n_0_1_1512512 x idx y
      = x (ix3 (⟨min (idx (ix2 (y 0) (0 : Fin 1))).toInt.toNat 1, by omega⟩ : Fin 2) (y 1) (y 2)) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S2x512x512.rank) ∈ gather_S2x512x512_S2x1_S2x512x512_12_0_n_n_0_1_1512512.startIndexMap from List.mem_singleton.mpr rfl)]
    show min (idx _).toInt.toNat 1 = min (idx _).toInt.toNat 1
    congr 4
    funext b
    refine Fin.ext ?_
    match b with
    | ⟨0, _⟩ => rfl
    | ⟨1, _⟩ => rfl
  | ⟨1, _⟩ =>
    unfold GatherDims.start
    rw [dif_neg (show (⟨1, by decide⟩ : Fin S2x512x512.rank) ∉ gather_S2x512x512_S2x1_S2x512x512_12_0_n_n_0_1_1512512.startIndexMap by decide)]
    simp only [Nat.zero_add]
    rfl
  | ⟨2, _⟩ =>
    unfold GatherDims.start
    rw [dif_neg (show (⟨2, by decide⟩ : Fin S2x512x512.rank) ∉ gather_S2x512x512_S2x1_S2x512x512_12_0_n_n_0_1_1512512.startIndexMap by decide)]
    simp only [Nat.zero_add]
    rfl

/-- So the gather takes row `r` of the operand where the start index is `r`. -/
theorem gather_row (x : SX.Idx → α) (idx : IVec S2x1 32) (y : SX.Idx) (r : Fin 2) (hr : (idx (ix2 (y 0) (0 : Fin 1))).toInt.toNat = r.val) :
    Host.gather gather_S2x512x512_S2x1_S2x512x512_12_0_n_n_0_1_1512512 x idx y = x (ix3 r (y 1) (y 2)) := by
  have := r.isLt
  rw [gather_rows]
  congr 2
  exact Fin.ext (by show min (idx _).toInt.toNat 1 = _; rw [hr]; omega)

/-- The reference's result for a table of `sw`: row `k` is row `rowOf sw k` of the operand. -/
theorem reference_rows {tbl : IVec S2 32} (h : IsTable sw tbl) (x : SX.Idx → α) (y : SX.Idx) :
    Host.gather gather_S2x512x512_S2x1_S2x512x512_12_0_n_n_0_1_1512512 x (startsOf tbl) y = x (ix3 (rowOf sw (y 0)) (y 1) (y 2)) := by
  rw [eq_tableOf sw h]
  exact gather_row x _ y _ (startsOf_row sw (y 0))

/-! ## The devices' parts -/

/-- Device `c`'s part of an array cut in two along its rows. -/
abbrev partOf (c : Fin 4) (v : SX.Idx → α) : (⟨3, ![1, 512, 512]⟩ : Shape).Idx → α :=
  Layout.blockN ⟨3, ![1, 512, 512]⟩ ⟨3, ![2, 512, 512]⟩ (Layout.meshBlock [2, 2] ![[0], [], []] c) v

/-- It is row `c / 2` of the array. -/
theorem partOf_apply (c : Fin 4) (v : SX.Idx → α) (i : (⟨3, ![1, 512, 512]⟩ : Shape).Idx) :
    partOf c v i = v (ix3 (⟨c.val / 2, by omega⟩ : Fin 2) (i 1) (i 2)) := by
  show v _ = v _
  congr 1
  funext a
  refine Fin.ext ?_
  rw [Layout.TilesN.idx_val]
  have h0 : (i 0).val = 0 := by have : (i 0).val < 1 := (i 0).isLt; omega
  match a with
  | ⟨0, _⟩ =>
    have hm : ∀ c : Fin 4, ((Layout.meshBlock [2, 2] ![[0], [], []] c) (0 : Fin 3)).val = c.val / 2 := by decide
    show ((Layout.meshBlock [2, 2] ![[0], [], []] c) (0 : Fin 3)).val * 1 + (i 0).val = c.val / 2
    rw [hm, h0]; omega
  | ⟨1, _⟩ =>
    show 0 * 512 + (i 1).val = (i 1).val
    omega
  | ⟨2, _⟩ =>
    show 0 * 512 + (i 2).val = (i 2).val
    omega

variable {F : FTy → Type} [FloatOps F]

open Cert.KernelIdeal in
/-- If the devices hold their parts of `x`, the result of each is its part of the reference's result. -/
theorem outAt_part (m : (ℓ : Loc Cert.KernelIdeal.nD Cert.KernelIdeal.τ Cert.KernelIdeal.sig) → Buf (Elt F) ℓ) (x : SX.Idx → Elt F .f32)
    (hx : ∀ c : Dev Cert.KernelIdeal.nD, m ((c : Thread Cert.KernelIdeal.nD Cert.KernelIdeal.τ).loc Cert.KernelIdeal.main_arg0) = partOf c x)
    {tbl : IVec Cert.ReferenceIdeal.S2 32} (h : IsTable sw tbl) (c : Dev Cert.KernelIdeal.nD) :
    outAt m sw c = partOf c (Host.gather gather_S2x512x512_S2x1_S2x512x512_12_0_n_n_0_1_1512512 x (startsOf tbl)) := by
  have hp : ∀ (d : Dev Cert.KernelIdeal.nD) (i : (⟨3, ![1, 512, 512]⟩ : Shape).Idx), xstg m d i = x (ix3 (⟨d.val / 2, by have : d.val < 4 := d.isLt; omega⟩ : Fin 2) (i 1) (i 2)) :=
    fun d i => by rw [xstg_eq, hx d]; exact partOf_apply d x i
  funext i
  rw [partOf_apply, reference_rows sw h]
  cases sw with
  | false => exact hp c i
  | true =>
    have hrow : ∀ d : Dev Cert.KernelIdeal.nD, d.val / 2 = 1 - c.val / 2 → xstg m d i
        = x (ix3 (rowOf true (⟨c.val / 2, by have : c.val < 4 := c.isLt; omega⟩ : Fin 2)) (i 1) (i 2)) := fun d hd => by
      rw [hp d i]
      congr 2
      refine Fin.ext ?_
      have hr : ∀ k : Fin 2, (rowOf true k).val = 1 - k.val := by decide
      rw [hr]; exact hd
    have hx1 : ∀ c : Dev Cert.KernelIdeal.nD, (px c).val / 2 = 1 - c.val / 2 := by decide
    have hx2 : ∀ c : Dev Cert.KernelIdeal.nD, (px (py c)).val / 2 = 1 - c.val / 2 := by decide
    unfold outAt
    rw [if_pos rfl]
    show (if _ then _ else _) = _
    split
    · exact hrow _ (hx1 c)
    · exact hrow _ (hx2 c)

end Cert.BlockSwap

end
-- ==== Proof.lean ====
/-
The certificate's claims: both programs run and leave their arguments, and, for the two permutations of two rows, each
device's result is its part of the rows taken in the order of the inverse permutation.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_is_swap_Kernel
public import proofs.«01_k».proof.Proof.Gen.Pre_is_identity_Kernel
public import proofs.«01_k».proof.Proof.Gen.Pre_is_swap_ReferenceIdeal
public import proofs.«01_k».proof.Proof.Gen.Pre_is_identity_ReferenceIdeal
public import proofs.«01_k».proof.Proof.Result
public import proofs.«01_k».proof.Proof.Value

@[expose] public section

noncomputable section

namespace Cert.Proof

open Idealize.ShloMosaic Idealize.ShloMosaic.TcCoe Idealize.SL.Sem
open Cert.BlockSwap (IsTable entry both_of_andi eq_of_cmpi tableOK_of run_main)

/-! ## The preconditions read at the table's two words -/

/-- The word that a precondition cuts out of the table: the table's entry. -/
theorem cut_word (k : Fin 2) (off : Fin 1 → Nat) (hoff : off 0 = k.val) (tbl : IVec Cert.Pre_is_swap_Kernel.S2 32)
    (h : Cert.Pre_is_swap_Kernel.S2.Slices off Cert.Pre_is_swap_Kernel.S1)
    (h' : Cert.Pre_is_swap_Kernel.S1.ShapeCasts Cert.Pre_is_swap_Kernel.S_) (i : Cert.Pre_is_swap_Kernel.S_.Idx) :
    shapeCast Cert.Pre_is_swap_Kernel.S_ (extractStridedSlice Cert.Pre_is_swap_Kernel.S1 off tbl h) h' i = tbl (entry k) := by
  have key : ∀ i' : Cert.Pre_is_swap_Kernel.S1.Idx, extractStridedSlice Cert.Pre_is_swap_Kernel.S1 off tbl h i' = tbl (entry k) := fun i' => by
    have h1 : (i' 0).val < 1 := (i' 0).isLt
    show tbl _ = tbl _
    congr 1
    funext a
    obtain rfl : a = (0 : Fin 1) := Subsingleton.elim _ _
    exact Fin.ext (show off 0 + (i' 0).val = k.val by omega)
  exact key _

/-- The precondition `is_swap` holds only of the table (1, 0). -/
theorem swap_table {F : FTy → Type} [FloatOps F] {x : FVec F Cert.Pre_is_swap_Kernel.S1x512x512 .f32} {tbl : IVec Cert.Pre_is_swap_Kernel.S2 32}
    (h : Cert.Pre_is_swap_Kernel.fn x tbl = fun _ => 1#1) : IsTable true tbl := by
  obtain ⟨h0, h1⟩ := both_of_andi (congrFun h fun a => a.elim0)
  exact ⟨(cut_word 0 _ rfl tbl _ _ _).symm.trans (eq_of_cmpi h0), (cut_word 1 _ rfl tbl _ _ _).symm.trans (eq_of_cmpi h1)⟩

/-- The precondition `is_identity` holds only of the table (0, 1). -/
theorem identity_table {F : FTy → Type} [FloatOps F] {x : FVec F Cert.Pre_is_identity_Kernel.S1x512x512 .f32}
    {tbl : IVec Cert.Pre_is_identity_Kernel.S2 32} (h : Cert.Pre_is_identity_Kernel.fn x tbl = fun _ => 1#1) : IsTable false tbl := by
  obtain ⟨h0, h1⟩ := both_of_andi (congrFun h fun a => a.elim0)
  exact ⟨(cut_word 0 _ rfl tbl _ _ _).symm.trans (eq_of_cmpi h0), (cut_word 1 _ rfl tbl _ _ _).symm.trans (eq_of_cmpi h1)⟩

/-! ## The frames -/

/-- The kernel over any float values, every device's table that of `sw`: it terminates, leaves its arguments and zero
    counters. -/
theorem frame_of {F : FTy → Type} [FloatOps F] (m : (ℓ : Loc Cert.KernelIdeal.nD Cert.KernelIdeal.τ Cert.KernelIdeal.sig) → Buf (Elt F) ℓ)
    (ρ : Dev Cert.KernelIdeal.nD → PrngReg) (sw : Bool)
    (ht : ∀ c : Dev Cert.KernelIdeal.nD, IsTable sw (m ((c.tc : Thread Cert.KernelIdeal.nD Cert.KernelIdeal.τ).loc Cert.KernelIdeal.main_arg1))) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ hr => ⟨fun c => (hr.1 c).2, hr.2⟩) (run_main m ρ sw (tableOK_of m sw ht))

/-- The two kernels' bodies are the same program, -/
theorem bodies_eq (p : Proc Cert.KernelIdeal.τ) : @Cert.Kernel.defs₀ Bits _ p = @Cert.KernelIdeal.defs₀ Bits _ p := by
  funext l a
  match p, l, a with
  | .tc, 0, (t, s) => rfl
  | .scScalar _, 0, _ => rfl
  | .scVector _ _, 0, _ => rfl

/-- and so are their tables of bodies. -/
theorem defs_eq : (Cert.Kernel.defs (F := Bits)) = Cert.KernelIdeal.defs (F := Bits) :=
  congrArg (Pipeline.defs (Cert.KernelIdeal.pcfgs (F := Bits))) (funext bodies_eq)

/-- The kernel over bit patterns, its table (1, 0) on every device: it terminates, leaves its arguments and zero counters. -/
theorem frame_kernel : Cert.quiescent_Kernel := fun m ρ h => by
  rw [defs_eq]
  exact frame_of (F := Bits) m ρ true fun c => swap_table (h c)

/-- The same for the table (0, 1). -/
theorem frame_kernel_identity : Cert.quiescent_Kernel_pre_is_identity_Kernel := fun m ρ h => by
  rw [defs_eq]
  exact frame_of (F := Bits) m ρ false fun c => identity_table (h c)

/-- The idealized kernel, its table (1, 0) on every device: it terminates, leaves its arguments and zero counters. -/
theorem frame_ideal : Cert.quiescent_KernelIdeal := fun m ρ h => frame_of (F := Ideal) m ρ true fun c => swap_table (h c)

/-- The same for the table (0, 1). -/
theorem frame_ideal_identity : Cert.quiescent_KernelIdeal_pre_is_identity_Kernel := fun m ρ h =>
  frame_of (F := Ideal) m ρ false fun c => identity_table (h c)

/-- The reference terminates and leaves its arguments, whatever they are; it has no counters. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

/-! ## The value -/

/-- From the devices' parts of `x`, their tables all `tbl`, the kernel's result on each device is its part of the
    reference's. -/
theorem value (sw : Bool) (m : (ℓ : Loc Cert.KernelIdeal.nD Cert.KernelIdeal.τ Cert.KernelIdeal.sig) → Buf (Elt Ideal) ℓ)
    (ρ : Dev Cert.KernelIdeal.nD → PrngReg) (x : Cert.BlockSwap.SX.Idx → Elt Ideal .f32) (tbl : IVec Cert.ReferenceIdeal.S2 32)
    (ht : IsTable sw tbl)
    (hx : ∀ c : Dev Cert.KernelIdeal.nD, m ((c : Thread Cert.KernelIdeal.nD Cert.KernelIdeal.τ).loc Cert.KernelIdeal.main_arg0) = Cert.BlockSwap.partOf c x
      ∧ m ((c : Thread Cert.KernelIdeal.nD Cert.KernelIdeal.τ).loc Cert.KernelIdeal.main_arg1) = tbl) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD,
        r.2.mem ((c : Thread Cert.KernelIdeal.nD Cert.KernelIdeal.τ).loc Cert.KernelIdeal.main_v1)
            = Cert.BlockSwap.partOf c (Host.gather Cert.ReferenceIdeal.gather_S2x512x512_S2x1_S2x512x512_12_0_n_n_0_1_1512512 x (Cert.BlockSwap.startsOf tbl))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)) :=
  (θ_run Cert.KernelIdeal.defs _ _).mono
    (fun _ hr c => ⟨(hr.1 c).1.trans (Cert.BlockSwap.outAt_part sw m x (fun c => (hx c).1) ht c), (hr.1 c).2⟩)
    (run_main (F := Ideal) m ρ sw (tableOK_of m sw fun c => by rw [(hx c).2]; exact ht))

/-- With the table (1, 0), the devices' results are their parts of the reference's result. -/
theorem algebraic_swap : Cert.algebraic_KernelIdeal_ReferenceIdeal := fun m ρ m' ρ' hpre hagree =>
  ⟨_, value true m ρ _ _ (by rw [← (hagree 0).2]; exact swap_table (hpre 0)) hagree, (θ_run Cert.ReferenceIdeal.defs _ _).mono (fun _ hr => hr 0) (Cert.ReferenceIdeal.Value.run (F := Ideal) m' ρ')⟩

/-- With the table (0, 1), the devices' results are their parts of the reference's result. -/
theorem algebraic_identity : Cert.algebraic_KernelIdeal_ReferenceIdeal_pre_is_identity_Kernel := fun m ρ m' ρ' hpre hagree =>
  ⟨_, value false m ρ _ _ (by rw [← (hagree 0).2]; exact identity_table (hpre 0)) hagree, (θ_run Cert.ReferenceIdeal.defs _ _).mono (fun _ hr => hr 0) (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts, Cert.Pre_is_swap_Kernel.Gen.facts,
    Cert.Pre_is_identity_Kernel.Gen.facts, Cert.Pre_is_swap_ReferenceIdeal.Gen.facts, Cert.Pre_is_identity_ReferenceIdeal.Gen.facts,
    frame_kernel, frame_kernel_identity, frame_ideal, frame_ideal_identity, frame_reference,
    fun m ρ _ => frame_reference m ρ trivial, fun m ρ _ => frame_reference m ρ trivial, trivial, algebraic_swap, algebraic_identity⟩

end Cert.Proof

end
